-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_mlstm_scores_finite [hPre_mlstm_scores_finite : Cert.Pre_mlstm_scores_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_mlstm_scores_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_mlstm_scores_finite [hPre_mlstm_scores_finite : Cert.Pre_mlstm_scores_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_mlstm_scores_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_mlstm_scores_finite [hKernel5Ideal : Cert.Kernel5Ideal.Facts] [hPre_mlstm_scores_finite : Cert.Pre_mlstm_scores_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_mlstm_scores_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_mlstm_scores_finite [hReference5Ideal : Cert.Reference5Ideal.Facts] [hPre_mlstm_scores_finite : Cert.Pre_mlstm_scores_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_mlstm_scores_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_mlstm_scores_finite [hKernel5Ideal : Cert.Kernel5Ideal.Facts] [hReference5Ideal : Cert.Reference5Ideal.Facts] [hPre_mlstm_scores_finite : Cert.Pre_mlstm_scores_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_mlstm_scores_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v63) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_scores_finite : Cert.Pre_scores_finite.Facts) (hPre_mlstm_scores_finite : Cert.Pre_mlstm_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_mlstm_scores_finite (hKernel5Ideal := hKernel5Ideal) (hPre_mlstm_scores_finite := hPre_mlstm_scores_finite)
    ∧ quiescent_Reference5Ideal (hReference5Ideal := hReference5Ideal)
    ∧ quiescent_Reference5Ideal_pre_mlstm_scores_finite (hReference5Ideal := hReference5Ideal) (hPre_mlstm_scores_finite := hPre_mlstm_scores_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_mlstm_scores_finite (hKernel5Ideal := hKernel5Ideal) (hReference5Ideal := hReference5Ideal) (hPre_mlstm_scores_finite := hPre_mlstm_scores_finite)
-- ==== Pre_mlstm_scores_finite.lean ====
abbrev S8x2048x1536 : Shape := ⟨3, ![8, 2048, 1536]⟩
abbrev S8x2048x4096 : Shape := ⟨3, ![8, 2048, 4096]⟩
abbrev S8x2048x1024 : Shape := ⟨3, ![8, 2048, 1024]⟩
abbrev S8x256x1024 : Shape := ⟨3, ![8, 256, 1024]⟩
abbrev S2x2048x1024 : Shape := ⟨3, ![2, 2048, 1024]⟩
abbrev S1x1536 : Shape := ⟨2, ![1, 1536]⟩
abbrev S8x2048x512 : Shape := ⟨3, ![8, 2048, 512]⟩
abbrev S8x256x512 : Shape := ⟨3, ![8, 256, 512]⟩
abbrev S8x2304x512 : Shape := ⟨3, ![8, 2304, 512]⟩
abbrev S_ : Shape := ⟨0, ![]⟩

class Facts : Prop where
  slices_S8x2048x4096_S8x2048x512_0_0_1536 : S8x2048x4096.Slices ![0, 0, 1536] S8x2048x512
  slices_S8x256x1024_S8x256x512_0_0_0 : S8x256x1024.Slices ![0, 0, 0] S8x256x512
  concatenates_S8x2048x512_S8x256x512_S8x2304x512_d1 : Shape.Concatenates [S8x2048x512, S8x256x512] S8x2304x512 1
  bitsLt_bf16_f32 : FTy.bits .bf16 < FTy.bits .f32
  bcast_S_S8x2304x512 : S_.BroadcastsInDim S8x2304x512 (![] : Fin 0 → Fin S8x2304x512.rank)

variable [Facts]

def fn {F : FTy → Type} [FloatOps F] (main_arg0 : FVec F S8x2048x1536 .bf16) (main_arg1 : FVec F S8x2048x1536 .bf16) (main_arg2 : FVec F S8x2048x4096 .bf16) (main_arg3 : FVec F S8x2048x1024 .f32) (main_arg4 : FVec F S8x256x1024 .bf16) (main_arg5 : FVec F S2x2048x1024 .f32) (main_arg6 : FVec F S1x1536 .f32) (main_arg7 : FVec F S1x1536 .f32) : IVec S8x2304x512 1 :=
  let main_v0 : FVec F S8x2048x512 .bf16 := (extractStridedSlice S8x2048x512 ![0, 0, 1536] · slices_S8x2048x4096_S8x2048x512_0_0_1536) main_arg2
  let main_v1 : FVec F S8x256x512 .bf16 := (extractStridedSlice S8x256x512 ![0, 0, 0] · slices_S8x256x1024_S8x256x512_0_0_0) main_arg4
  let main_v2 : FVec F S8x2304x512 .bf16 := (fun a b => concatenate S8x2304x512 1 [⟨S8x2048x512, a⟩, ⟨S8x256x512, b⟩] concatenates_S8x2048x512_S8x256x512_S8x2304x512_d1) main_v0 main_v1
  let main_v3 : FVec F S8x2304x512 .f32 := (extf .f32 · bitsLt_bf16_f32) main_v2
  let main_v4 : FVec F S8x2304x512 .f32 := Host.absf main_v3
  let main_cst : FVec F S_ .f32 := constant S_ .f32 0x7F800000#32
  let main_v5 : FVec F S8x2304x512 .f32 := broadcastInDim S8x2304x512 ![] bcast_S_S8x2304x512 main_cst
  let main_v6 : IVec S8x2304x512 1 := cmpf .olt main_v4 main_v5
  main_v6
-- ==== Pre_scores_finite.lean ====
abbrev S8x2048x1536 : Shape := ⟨3, ![8, 2048, 1536]⟩
abbrev S8x2048x7680 : Shape := ⟨3, ![8, 2048, 7680]⟩
abbrev S8x2048x1024 : Shape := ⟨3, ![8, 2048, 1024]⟩
abbrev S8x256x1024 : Shape := ⟨3, ![8, 256, 1024]⟩
abbrev S2x2048x1024 : Shape := ⟨3, ![2, 2048, 1024]⟩
abbrev S1x1536 : Shape := ⟨2, ![1, 1536]⟩
abbrev S1024 : Shape := ⟨1, ![1024]⟩
abbrev S8x2048x512 : Shape := ⟨3, ![8, 2048, 512]⟩
abbrev S8x256x512 : Shape := ⟨3, ![8, 256, 512]⟩
abbrev S8x2304x512 : Shape := ⟨3, ![8, 2304, 512]⟩
abbrev S_ : Shape := ⟨0, ![]⟩

class Facts : Prop where
  slices_S8x2048x7680_S8x2048x512_0_0_4608 : S8x2048x7680.Slices ![0, 0, 4608] S8x2048x512
  slices_S8x256x1024_S8x256x512_0_0_0 : S8x256x1024.Slices ![0, 0, 0] S8x256x512
  concatenates_S8x2048x512_S8x256x512_S8x2304x512_d1 : Shape.Concatenates [S8x2048x512, S8x256x512] S8x2304x512 1
  bitsLt_bf16_f32 : FTy.bits .bf16 < FTy.bits .f32
  bcast_S_S8x2304x512 : S_.BroadcastsInDim S8x2304x512 (![] : Fin 0 → Fin S8x2304x512.rank)

variable [Facts]

def fn {F : FTy → Type} [FloatOps F] (main_arg0 : FVec F S8x2048x1536 .bf16) (main_arg1 : FVec F S8x2048x1536 .bf16) (main_arg2 : FVec F S8x2048x1536 .bf16) (main_arg3 : FVec F S8x2048x7680 .bf16) (main_arg4 : FVec F S8x2048x1024 .f32) (main_arg5 : FVec F S8x256x1024 .bf16) (main_arg6 : FVec F S2x2048x1024 .f32) (main_arg7 : FVec F S1x1536 .f32) (main_arg8 : FVec F S1x1536 .f32) (main_arg9 : FVec F S1024 .f32) : IVec S8x2304x512 1 :=
  let main_v0 : FVec F S8x2048x512 .bf16 := (extractStridedSlice S8x2048x512 ![0, 0, 4608] · slices_S8x2048x7680_S8x2048x512_0_0_4608) main_arg3
  let main_v1 : FVec F S8x256x512 .bf16 := (extractStridedSlice S8x256x512 ![0, 0, 0] · slices_S8x256x1024_S8x256x512_0_0_0) main_arg5
  let main_v2 : FVec F S8x2304x512 .bf16 := (fun a b => concatenate S8x2304x512 1 [⟨S8x2048x512, a⟩, ⟨S8x256x512, b⟩] concatenates_S8x2048x512_S8x256x512_S8x2304x512_d1) main_v0 main_v1
  let main_v3 : FVec F S8x2304x512 .f32 := (extf .f32 · bitsLt_bf16_f32) main_v2
  let main_v4 : FVec F S8x2304x512 .f32 := Host.absf main_v3
  let main_cst : FVec F S_ .f32 := constant S_ .f32 0x7F800000#32
  let main_v5 : FVec F S8x2304x512 .f32 := broadcastInDim S8x2304x512 ![] bcast_S_S8x2304x512 main_cst
  let main_v6 : IVec S8x2304x512 1 := cmpf .olt main_v4 main_v5
  main_v6
-- ==== Kernel.lean ====
abbrev S8x2048x1536 : Shape := ⟨3, ![8, 2048, 1536]⟩
abbrev S8x2048x7680 : Shape := ⟨3, ![8, 2048, 7680]⟩
abbrev S8x2048x1024 : Shape := ⟨3, ![8, 2048, 1024]⟩
abbrev S8x256x1024 : Shape := ⟨3, ![8, 256, 1024]⟩
abbrev S2x2048x1024 : Shape := ⟨3, ![2, 2048, 1024]⟩
abbrev S1x1536 : Shape := ⟨2, ![1, 1536]⟩
abbrev S1024 : Shape := ⟨1, ![1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x2048x1024 : Shape := ⟨3, ![1, 2048, 1024]⟩
abbrev S2048x1024 : Shape := ⟨2, ![2048, 1024]⟩
abbrev S1536 : Shape := ⟨1, ![1536]⟩
abbrev S1x1024 : Shape := ⟨2, ![1, 1024]⟩
abbrev S1x512x1536 : Shape := ⟨3, ![1, 512, 1536]⟩
abbrev S1x512x512 : Shape := ⟨3, ![1, 512, 512]⟩
abbrev S1x512x1024 : Shape := ⟨3, ![1, 512, 1024]⟩
abbrev S1x256x1024 : Shape := ⟨3, ![1, 256, 1024]⟩
abbrev S256x2048 : Shape := ⟨2, ![256, 2048]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x256x256 : Shape := ⟨3, ![1, 256, 256]⟩
abbrev S2048x256 : Shape := ⟨2, ![2048, 256]⟩
abbrev S256x1024 : Shape := ⟨2, ![256, 1024]⟩

abbrev nBuf : Space → Nat
  | .hbm => 44
  | .vmem => 25
  | .smem => 0
  | _ => 0

abbrev bufTy : (tb : Table) → Fin (tcTables nBuf tb) → BufTy
  | .hbm, ⟨0, _⟩ => ⟨S8x2048x1536, .bf16⟩
  | .hbm, ⟨1, _⟩ => ⟨S8x2048x1536, .bf16⟩
  | .hbm, ⟨2, _⟩ => ⟨S8x2048x1536, .bf16⟩
  | .hbm, ⟨3, _⟩ => ⟨S8x2048x7680, .bf16⟩
  | .hbm, ⟨4, _⟩ => ⟨S8x2048x1024, .f32⟩
  | .hbm, ⟨5, _⟩ => ⟨S8x256x1024, .bf16⟩
  | .hbm, ⟨6, _⟩ => ⟨S2x2048x1024, .f32⟩
  | .hbm, ⟨7, _⟩ => ⟨S1x1536, .f32⟩
  | .hbm, ⟨8, _⟩ => ⟨S1x1536, .f32⟩
  | .hbm, ⟨9, _⟩ => ⟨S1024, .f32⟩
  | .hbm, ⟨10, _⟩ => ⟨S128, .i32⟩
  | .hbm, ⟨11, _⟩ => ⟨S_, .i32⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S128, .i32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i1⟩
  | .hbm, ⟨24, _⟩ => ⟨S128, .i1⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S128x1, .i32⟩
  | .hbm, ⟨30, _⟩ => ⟨S1x128, .i32⟩
  | .hbm, ⟨31, _⟩ => ⟨S128x128, .i32⟩
  | .hbm, ⟨32, _⟩ => ⟨S128x128, .i32⟩
  | .hbm, ⟨33, _⟩ => ⟨S128x128, .i1⟩
  | .hbm, ⟨34, _⟩ => ⟨S128x128, .bf16⟩
  | .hbm, ⟨35, _⟩ => ⟨S1x2048x1024, .f32⟩
  | .hbm, ⟨36, _⟩ => ⟨S2048x1024, .f32⟩
  | .hbm, ⟨37, _⟩ => ⟨S2048x1024, .bf16⟩
  | .hbm, ⟨38, _⟩ => ⟨S1536, .f32⟩
  | .hbm, ⟨39, _⟩ => ⟨S1536, .f32⟩
  | .hbm, ⟨40, _⟩ => ⟨S1x1536, .f32⟩
  | .hbm, ⟨41, _⟩ => ⟨S1x1536, .f32⟩
  | .hbm, ⟨42, _⟩ => ⟨S1x1024, .f32⟩
  | .hbm, ⟨43, _⟩ => ⟨S8x2048x1024, .f32⟩
  | .local _ .vmem, ⟨0, _⟩ => ⟨S1x512x1536, .bf16⟩
  | .local _ .vmem, ⟨1, _⟩ => ⟨S1x512x1536, .bf16⟩
  | .local _ .vmem, ⟨2, _⟩ => ⟨S1x512x1536, .bf16⟩
  | .local _ .vmem, ⟨3, _⟩ => ⟨S1x512x1536, .bf16⟩
  | .local _ .vmem, ⟨4, _⟩ => ⟨S1x512x1536, .bf16⟩
  | .local _ .vmem, ⟨5, _⟩ => ⟨S1x512x1536, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x256x1024, .bf16⟩
  | .local _ .vmem, ⟨15, _⟩ => ⟨S1x256x1024, .bf16⟩
  | .local _ .vmem, ⟨16, _⟩ => ⟨S2048x1024, .bf16⟩
  | .local _ .vmem, ⟨17, _⟩ => ⟨S1x1536, .f32⟩
  | .local _ .vmem, ⟨18, _⟩ => ⟨S1x1536, .f32⟩
  | .local _ .vmem, ⟨19, _⟩ => ⟨S1x1024, .f32⟩
  | .local _ .vmem, ⟨20, _⟩ => ⟨S128x128, .bf16⟩
  | .local _ .vmem, ⟨21, _⟩ => ⟨S1x512x1024, .f32⟩
  | .local _ .vmem, ⟨22, _⟩ => ⟨S1x512x1024, .f32⟩
  | .local _ .vmem, ⟨23, _⟩ => ⟨S256x2048, .bf16⟩
  | .local _ .vmem, ⟨24, _⟩ => ⟨S256x2048, .bf16⟩
  | _, _ => ⟨S8x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_5 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S8x2048x1536 : Shape := ⟨3, ![8, 2048, 1536]⟩
abbrev S8x2048x7680 : Shape := ⟨3, ![8, 2048, 7680]⟩
abbrev S8x2048x1024 : Shape := ⟨3, ![8, 2048, 1024]⟩
abbrev S8x256x1024 : Shape := ⟨3, ![8, 256, 1024]⟩
abbrev S2x2048x1024 : Shape := ⟨3, ![2, 2048, 1024]⟩
abbrev S1x1536 : Shape := ⟨2, ![1, 1536]⟩
abbrev S1024 : Shape := ⟨1, ![1024]⟩
abbrev S8x2048x512 : Shape := ⟨3, ![8, 2048, 512]⟩
abbrev S8x2048x2048 : Shape := ⟨3, ![8, 2048, 2048]⟩
abbrev S8x2048x24x64 : Shape := ⟨4, ![8, 2048, 24, 64]⟩
abbrev S_ : Shape := ⟨0, ![]⟩
abbrev S8x2048x24 : Shape := ⟨3, ![8, 2048, 24]⟩
abbrev S8x2048x24x1 : Shape := ⟨4, ![8, 2048, 24, 1]⟩
abbrev S1536 : Shape := ⟨1, ![1536]⟩
abbrev S1x1x1536 : Shape := ⟨3, ![1, 1, 1536]⟩
abbrev S8x256x512 : Shape := ⟨3, ![8, 256, 512]⟩
abbrev S8x2048x4x128 : Shape := ⟨4, ![8, 2048, 4, 128]⟩
abbrev S8x256x4x128 : Shape := ⟨4, ![8, 256, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S1x2048x1024 : Shape := ⟨3, ![1, 2048, 1024]⟩
abbrev S2048x1024 : Shape := ⟨2, ![2048, 1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 109
  | .vmem => 0
  | .smem => 0
  | _ => 0

abbrev bufTy : (tb : Table) → Fin (tcTables nBuf tb) → BufTy
  | .hbm, ⟨0, _⟩ => ⟨S8x2048x1536, .bf16⟩
  | .hbm, ⟨1, _⟩ => ⟨S8x2048x1536, .bf16⟩
  | .hbm, ⟨2, _⟩ => ⟨S8x2048x1536, .bf16⟩
  | .hbm, ⟨3, _⟩ => ⟨S8x2048x7680, .bf16⟩
  | .hbm, ⟨4, _⟩ => ⟨S8x2048x1024, .f32⟩
  | .hbm, ⟨5, _⟩ => ⟨S8x256x1024, .bf16⟩
  | .hbm, ⟨6, _⟩ => ⟨S2x2048x1024, .f32⟩
  | .hbm, ⟨7, _⟩ => ⟨S1x1536, .f32⟩
  | .hbm, ⟨8, _⟩ => ⟨S1x1536, .f32⟩
  | .hbm, ⟨9, _⟩ => ⟨S1024, .f32⟩
  | .hbm, ⟨10, _⟩ => ⟨S8x2048x1536, .f32⟩
  | .hbm, ⟨11, _⟩ => ⟨S8x2048x1536, .f32⟩
  | .hbm, ⟨12, _⟩ => ⟨S8x2048x1536, .f32⟩
  | .hbm, ⟨13, _⟩ => ⟨S8x2048x7680, .f32⟩
  | .hbm, ⟨14, _⟩ => ⟨S8x256x1024, .f32⟩
  | .hbm, ⟨15, _⟩ => ⟨S8x2048x512, .f32⟩
  | .hbm, ⟨16, _⟩ => ⟨S8x2048x2048, .f32⟩
  | .hbm, ⟨17, _⟩ => ⟨S8x2048x24x64, .f32⟩
  | .hbm, ⟨18, _⟩ => ⟨S_, .f32⟩
  | .hbm, ⟨19, _⟩ => ⟨S8x2048x24, .f32⟩
  | .hbm, ⟨20, _⟩ => ⟨S8x2048x24x1, .f32⟩
  | .hbm, ⟨21, _⟩ => ⟨S_, .f32⟩
  | .hbm, ⟨22, _⟩ => ⟨S8x2048x24x1, .f32⟩
  | .hbm, ⟨23, _⟩ => ⟨S8x2048x24x1, .f32⟩
  | .hbm, ⟨24, _⟩ => ⟨S8x2048x24x64, .f32⟩
  | .hbm, ⟨25, _⟩ => ⟨S8x2048x24x64, .f32⟩
  | .hbm, ⟨26, _⟩ => ⟨S8x2048x24x64, .f32⟩
  | .hbm, ⟨27, _⟩ => ⟨S_, .f32⟩
  | .hbm, ⟨28, _⟩ => ⟨S8x2048x24, .f32⟩
  | .hbm, ⟨29, _⟩ => ⟨S8x2048x24x1, .f32⟩
  | .hbm, ⟨30, _⟩ => ⟨S_, .f32⟩
  | .hbm, ⟨31, _⟩ => ⟨S8x2048x24x1, .f32⟩
  | .hbm, ⟨32, _⟩ => ⟨S8x2048x24x1, .f32⟩
  | .hbm, ⟨33, _⟩ => ⟨S8x2048x24x64, .f32⟩
  | .hbm, ⟨34, _⟩ => ⟨S8x2048x24x64, .f32⟩
  | .hbm, ⟨35, _⟩ => ⟨S_, .f32⟩
  | .hbm, ⟨36, _⟩ => ⟨S8x2048x24x1, .f32⟩
  | .hbm, ⟨37, _⟩ => ⟨S8x2048x24x1, .f32⟩
  | .hbm, ⟨38, _⟩ => ⟨S8x2048x24x1, .f32⟩
  | .hbm, ⟨39, _⟩ => ⟨S8x2048x24x64, .f32⟩
  | .hbm, ⟨40, _⟩ => ⟨S8x2048x24x64, .f32⟩
  | .hbm, ⟨41, _⟩ => ⟨S8x2048x1536, .f32⟩
  | .hbm, ⟨42, _⟩ => ⟨S1536, .f32⟩
  | .hbm, ⟨43, _⟩ => ⟨S1x1x1536, .f32⟩
  | .hbm, ⟨44, _⟩ => ⟨S8x2048x1536, .f32⟩
  | .hbm, ⟨45, _⟩ => ⟨S8x2048x1536, .f32⟩
  | .hbm, ⟨46, _⟩ => ⟨S1536, .f32⟩
  | .hbm, ⟨47, _⟩ => ⟨S1x1x1536, .f32⟩
  | .hbm, ⟨48, _⟩ => ⟨S8x2048x1536, .f32⟩
  | .hbm, ⟨49, _⟩ => ⟨S8x2048x1536, .f32⟩
  | .hbm, ⟨50, _⟩ => ⟨S8x2048x1536, .f32⟩
  | .hbm, ⟨51, _⟩ => ⟨S8x2048x1536, .f32⟩
  | .hbm, ⟨52, _⟩ => ⟨S8x256x512, .f32⟩
  | .hbm, ⟨53, _⟩ => ⟨S8x256x512, .f32⟩
  | .hbm, ⟨54, _⟩ => ⟨S8x2048x4x128, .f32⟩
  | .hbm, ⟨55, _⟩ => ⟨S8x256x4x128, .f32⟩
  | .hbm, ⟨56, _⟩ => ⟨S8x256x4x128, .f32⟩
  | .hbm, ⟨57, _⟩ => ⟨S8x4x2048x256, .f32⟩
  | .hbm, ⟨58, _⟩ => ⟨S_, .f32⟩
  | .hbm, ⟨59, _⟩ => ⟨S8x4x2048x256, .f32⟩
  | .hbm, ⟨60, _⟩ => ⟨S8x4x2048x256, .f32⟩
  | .hbm, ⟨61, _⟩ => ⟨S_, .f32⟩
  | .hbm, ⟨62, _⟩ => ⟨S8x4x2048, .f32⟩
  | .hbm, ⟨63, _⟩ => ⟨S_, .f32⟩
  | .hbm, ⟨64, _⟩ => ⟨S8x4x2048, .f32⟩
  | .hbm, ⟨65, _⟩ => ⟨S8x4x2048, .f32⟩
  | .hbm, ⟨66, _⟩ => ⟨S8x4x2048x1, .f32⟩
  | .hbm, ⟨67, _⟩ => ⟨S8x4x2048x256, .f32⟩
  | .hbm, ⟨68, _⟩ => ⟨S8x4x2048x256, .f32⟩
  | .hbm, ⟨69, _⟩ => ⟨S8x4x2048x256, .f32⟩
  | .hbm, ⟨70, _⟩ => ⟨S_, .f32⟩
  | .hbm, ⟨71, _⟩ => ⟨S8x4x2048, .f32⟩
  | .hbm, ⟨72, _⟩ => ⟨S8x4x2048x1, .f32⟩
  | .hbm, ⟨73, _⟩ => ⟨S8x4x2048x256, .f32⟩
  | .hbm, ⟨74, _⟩ => ⟨S8x4x2048x256, .f32⟩
  | .hbm, ⟨75, _⟩ => ⟨S8x4x128x2048, .f32⟩
  | .hbm, ⟨76, _⟩ => ⟨S8x2048x4x128, .f32⟩
  | .hbm, ⟨77, _⟩ => ⟨S8x2048x512, .f32⟩
  | .hbm, ⟨78, _⟩ => ⟨S8x2048x2048, .f32⟩
  | .hbm, ⟨79, _⟩ => ⟨S8x2048x2048, .f32⟩
  | .hbm, ⟨80, _⟩ => ⟨S8x2048x2048, .f32⟩
  | .hbm, ⟨81, _⟩ => ⟨S_, .f32⟩
  | .hbm, ⟨82, _⟩ => ⟨S8x2048x2048, .f32⟩
  | .hbm, ⟨83, _⟩ => ⟨S8x2048x2048, .f32⟩
  | .hbm, ⟨84, _⟩ => ⟨S_, .f32⟩
  | .hbm, ⟨85, _⟩ => ⟨S8x2048x2048, .f32⟩
  | .hbm, ⟨86, _⟩ => ⟨S8x2048x2048, .f32⟩
  | .hbm, ⟨87, _⟩ => ⟨S8x2048x2048, .f32⟩
  | .hbm, ⟨88, _⟩ => ⟨S8x2048x2048, .f32⟩
  | .hbm, ⟨89, _⟩ => ⟨S1x2048x1024, .f32⟩
  | .hbm, ⟨90, _⟩ => ⟨S2048x1024, .f32⟩
  | .hbm, ⟨91, _⟩ => ⟨S8x2048x1024, .f32⟩
  | .hbm, ⟨92, _⟩ => ⟨S8x2048x1024, .f32⟩
  | .hbm, ⟨93, _⟩ => ⟨S8x2048x1024, .f32⟩
  | .hbm, ⟨94, _⟩ => ⟨S_, .f32⟩
  | .hbm, ⟨95, _⟩ => ⟨S8x2048, .f32⟩
  | .hbm, ⟨96, _⟩ => ⟨S8x2048x1, .f32⟩
  | .hbm, ⟨97, _⟩ => ⟨S_, .f32⟩
  | .hbm, ⟨98, _⟩ => ⟨S8x2048x1, .f32⟩
  | .hbm, ⟨99, _⟩ => ⟨S8x2048x1, .f32⟩
  | .hbm, ⟨100, _⟩ => ⟨S_, .f32⟩
  | .hbm, ⟨101, _⟩ => ⟨S8x2048x1, .f32⟩
  | .hbm, ⟨102, _⟩ => ⟨S8x2048x1, .f32⟩
  | .hbm, ⟨103, _⟩ => ⟨S8x2048x1, .f32⟩
  | .hbm, ⟨104, _⟩ => ⟨S8x2048x1024, .f32⟩
  | .hbm, ⟨105, _⟩ => ⟨S8x2048x1024, .f32⟩
  | .hbm, ⟨106, _⟩ => ⟨S1x1x1024, .f32⟩
  | .hbm, ⟨107, _⟩ => ⟨S8x2048x1024, .f32⟩
  | .hbm, ⟨108, _⟩ => ⟨S8x2048x1024, .f32⟩
  | _, _ => ⟨S8x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_8 : Ref sig .tc := ⟨.hbm, 94, rfl⟩
abbrev main_v67 : Ref sig .tc := ⟨.hbm, 95, rfl⟩
abbrev main_v68 : Ref sig .tc := ⟨.hbm, 96, rfl⟩
abbrev main_cst_9 : Ref sig .tc := ⟨.hbm, 97, rfl⟩
abbrev main_v69 : Ref sig .tc := ⟨.hbm, 98, rfl⟩
abbrev main_v70 : Ref sig .tc := ⟨.hbm, 99, rfl⟩
abbrev main_cst_10 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]
-- ==== Kernel2.lean ====
abbrev S8x2048x1024 : Shape := ⟨3, ![8, 2048, 1024]⟩
abbrev S2x1024 : Shape := ⟨2, ![2, 1024]⟩
abbrev S1x1024x7456 : Shape := ⟨3, ![1, 1024, 7456]⟩
abbrev S1024x7456 : Shape := ⟨2, ![1024, 7456]⟩
abbrev S1024x64 : Shape := ⟨2, ![1024, 64]⟩
abbrev S_ : Shape := ⟨0, ![]⟩
abbrev S1024x128 : Shape := ⟨2, ![1024, 128]⟩
abbrev S1024x32 : Shape := ⟨2, ![1024, 32]⟩
abbrev S1024x512 : Shape := ⟨2, ![1024, 512]⟩
abbrev S1024x4608 : Shape := ⟨2, ![1024, 4608]⟩
abbrev S1024x2560 : Shape := ⟨2, ![1024, 2560]⟩
abbrev S1024x7680 : Shape := ⟨2, ![1024, 7680]⟩
abbrev S16384x1024 : Shape := ⟨2, ![16384, 1024]⟩
abbrev S1x1024 : Shape := ⟨2, ![1, 1024]⟩
abbrev S1024 : Shape := ⟨1, ![1024]⟩
abbrev S16384x7680 : Shape := ⟨2, ![16384, 7680]⟩
abbrev S1024x1024 : Shape := ⟨2, ![1024, 1024]⟩
abbrev S1024x1 : Shape := ⟨2, ![1024, 1]⟩

abbrev nBuf : Space → Nat
  | .hbm => 30
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x7456, .f32⟩
  | .hbm, ⟨3, _⟩ => ⟨S1024x7456, .f32⟩
  | .hbm, ⟨4, _⟩ => ⟨S1024x64, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x64, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x32, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x512, .f32⟩
  | .hbm, ⟨21, _⟩ => ⟨S1024x4608, .f32⟩
  | .hbm, ⟨22, _⟩ => ⟨S1024x2560, .f32⟩
  | .hbm, ⟨23, _⟩ => ⟨S1024x7680, .f32⟩
  | .hbm, ⟨24, _⟩ => ⟨S16384x1024, .f32⟩
  | .hbm, ⟨25, _⟩ => ⟨S1x1024, .f32⟩
  | .hbm, ⟨26, _⟩ => ⟨S1024, .f32⟩
  | .hbm, ⟨27, _⟩ => ⟨S1024x7680, .bf16⟩
  | .hbm, ⟨28, _⟩ => ⟨S1x1024, .f32⟩
  | .hbm, ⟨29, _⟩ => ⟨S16384x7680, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1024x2560, .bf16⟩
  | .local _ .vmem, ⟨5, _⟩ => ⟨S1024x2560, .bf16⟩
  | .local _ .vmem, ⟨6, _⟩ => ⟨S1024x2560, .bf16⟩
  | .local _ .vmem, ⟨7, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_call3_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8x2048x1024 : Shape := ⟨3, ![8, 2048, 1024]⟩
abbrev S2x1024 : Shape := ⟨2, ![2, 1024]⟩
abbrev S1x1024x7456 : Shape := ⟨3, ![1, 1024, 7456]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x7456 : Shape := ⟨2, ![1024, 7456]⟩
abbrev S8x2048x7456 : Shape := ⟨3, ![8, 2048, 7456]⟩
abbrev S8x2048x4608 : Shape := ⟨3, ![8, 2048, 4608]⟩
abbrev S8x2048x64 : Shape := ⟨3, ![8, 2048, 64]⟩
abbrev S8x2048x32 : Shape := ⟨3, ![8, 2048, 32]⟩
abbrev S8x2048x128 : Shape := ⟨3, ![8, 2048, 128]⟩
abbrev S8x2048x512 : Shape := ⟨3, ![8, 2048, 512]⟩
abbrev S8x2048x2048 : Shape := ⟨3, ![8, 2048, 2048]⟩
abbrev S8x2048x7680 : Shape := ⟨3, ![8, 2048, 7680]⟩
abbrev S16384x7680 : Shape := ⟨2, ![16384, 7680]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x7456, .f32⟩
  | .hbm, ⟨3, _⟩ => ⟨S1x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1024x7456, .f32⟩
  | .hbm, ⟨22, _⟩ => ⟨S8x2048x7456, .f32⟩
  | .hbm, ⟨23, _⟩ => ⟨S8x2048x4608, .f32⟩
  | .hbm, ⟨24, _⟩ => ⟨S8x2048x64, .f32⟩
  | .hbm, ⟨25, _⟩ => ⟨S8x2048x64, .f32⟩
  | .hbm, ⟨26, _⟩ => ⟨S8x2048x32, .f32⟩
  | .hbm, ⟨27, _⟩ => ⟨S8x2048x128, .f32⟩
  | .hbm, ⟨28, _⟩ => ⟨S8x2048x512, .f32⟩
  | .hbm, ⟨29, _⟩ => ⟨S8x2048x2048, .f32⟩
  | .hbm, ⟨30, _⟩ => ⟨S_, .i32⟩
  | .hbm, ⟨31, _⟩ => ⟨S_, .f32⟩
  | .hbm, ⟨32, _⟩ => ⟨S8x2048x128, .f32⟩
  | .hbm, ⟨33, _⟩ => ⟨S_, .i32⟩
  | .hbm, ⟨34, _⟩ => ⟨S_, .f32⟩
  | .hbm, ⟨35, _⟩ => ⟨S8x2048x128, .f32⟩
  | .hbm, ⟨36, _⟩ => ⟨S_, .i32⟩
  | .hbm, ⟨37, _⟩ => ⟨S_, .f32⟩
  | .hbm, ⟨38, _⟩ => ⟨S8x2048x128, .f32⟩
  | .hbm, ⟨39, _⟩ => ⟨S_, .i32⟩
  | .hbm, ⟨40, _⟩ => ⟨S_, .f32⟩
  | .hbm, ⟨41, _⟩ => ⟨S8x2048x128, .f32⟩
  | .hbm, ⟨42, _⟩ => ⟨S8x2048x7680, .f32⟩
  | .hbm, ⟨43, _⟩ => ⟨S16384x7680, .f32⟩
  | .hbm, ⟨44, _⟩ => ⟨S16384x7680, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩
abbrev main_c_2 : Ref sig .tc := ⟨.hbm, 33, rfl⟩
abbrev main_call1_v0 : Ref sig .tc := ⟨.hbm, 34, rfl⟩
abbrev main_v25 : Ref sig .tc := ⟨.hbm, 35, rfl⟩
abbrev main_c_3 : Ref sig .tc := ⟨.hbm, 36, rfl⟩
abbrev main_call2_v0 : Ref sig .tc := ⟨.hbm, 37, rfl⟩
abbrev main_v26 : Ref sig .tc := ⟨.hbm, 38, rfl⟩
abbrev main_c_4 : Ref sig .tc := ⟨.hbm, 39, rfl⟩
abbrev main_call3_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel3.lean ====
abbrev S8x2048x1024 : Shape := ⟨3, ![8, 2048, 1024]⟩
abbrev S2x1024 : Shape := ⟨2, ![2, 1024]⟩
abbrev S1x1024x4096 : Shape := ⟨3, ![1, 1024, 4096]⟩
abbrev S16384x1024 : Shape := ⟨2, ![16384, 1024]⟩
abbrev S1x1024 : Shape := ⟨2, ![1, 1024]⟩
abbrev S1024 : Shape := ⟨1, ![1024]⟩
abbrev S1024x4096 : Shape := ⟨2, ![1024, 4096]⟩
abbrev S16384x4096 : Shape := ⟨2, ![16384, 4096]⟩
abbrev S1024x1024 : Shape := ⟨2, ![1024, 1024]⟩
abbrev S1024x1 : Shape := ⟨2, ![1024, 1]⟩

abbrev nBuf : Space → Nat
  | .hbm => 10
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x4096, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S1024x4096, .f32⟩
  | .hbm, ⟨7, _⟩ => ⟨S1024x4096, .bf16⟩
  | .hbm, ⟨8, _⟩ => ⟨S1x1024, .f32⟩
  | .hbm, ⟨9, _⟩ => ⟨S16384x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x4096, .bf16⟩
  | .local _ .vmem, ⟨5, _⟩ => ⟨S1024x4096, .bf16⟩
  | .local _ .vmem, ⟨6, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8x2048x1024 : Shape := ⟨3, ![8, 2048, 1024]⟩
abbrev S2x1024 : Shape := ⟨2, ![2, 1024]⟩
abbrev S1x1024x4096 : Shape := ⟨3, ![1, 1024, 4096]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x4096 : Shape := ⟨2, ![1024, 4096]⟩
abbrev S8x2048x4096 : Shape := ⟨3, ![8, 2048, 4096]⟩
abbrev S16384x4096 : Shape := ⟨2, ![16384, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x4096, .f32⟩
  | .hbm, ⟨3, _⟩ => ⟨S1x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1024x4096, .f32⟩
  | .hbm, ⟨22, _⟩ => ⟨S8x2048x4096, .f32⟩
  | .hbm, ⟨23, _⟩ => ⟨S16384x4096, .f32⟩
  | .hbm, ⟨24, _⟩ => ⟨S16384x4096, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel4.lean ====
abbrev S8x256x1024 : Shape := ⟨3, ![8, 256, 1024]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S1024x1024, .bf16⟩
  | .hbm, ⟨5, _⟩ => ⟨S1x1024, .f32⟩
  | .hbm, ⟨6, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x256x1024 : Shape := ⟨3, ![8, 256, 1024]⟩
abbrev S1024 : Shape := ⟨1, ![1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S2048x1024 : Shape := ⟨2, ![2048, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1x1024, .f32⟩
  | .hbm, ⟨17, _⟩ => ⟨S8x256x1024, .f32⟩
  | .hbm, ⟨18, _⟩ => ⟨S8x256x1024, .f32⟩
  | .hbm, ⟨19, _⟩ => ⟨S8x256x1024, .f32⟩
  | .hbm, ⟨20, _⟩ => ⟨S2048x1024, .f32⟩
  | .hbm, ⟨21, _⟩ => ⟨S2048x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S8x2048x1536 : Shape := ⟨3, ![8, 2048, 1536]⟩
abbrev S8x2048x4096 : Shape := ⟨3, ![8, 2048, 4096]⟩
abbrev S8x2048x1024 : Shape := ⟨3, ![8, 2048, 1024]⟩
abbrev S8x256x1024 : Shape := ⟨3, ![8, 256, 1024]⟩
abbrev S2x2048x1024 : Shape := ⟨3, ![2, 2048, 1024]⟩
abbrev S1x1536 : Shape := ⟨2, ![1, 1536]⟩
abbrev S1x2048x1024 : Shape := ⟨3, ![1, 2048, 1024]⟩
abbrev S2048x1024 : Shape := ⟨2, ![2048, 1024]⟩
abbrev S1536 : Shape := ⟨1, ![1536]⟩
abbrev S1x512x1536 : Shape := ⟨3, ![1, 512, 1536]⟩
abbrev S1x512x512 : Shape := ⟨3, ![1, 512, 512]⟩
abbrev S1x512x2048 : Shape := ⟨3, ![1, 512, 2048]⟩
abbrev S1x512x1024 : Shape := ⟨3, ![1, 512, 1024]⟩
abbrev S1x256x1024 : Shape := ⟨3, ![1, 256, 1024]⟩
abbrev S256x2048 : Shape := ⟨2, ![256, 2048]⟩
abbrev S1x256x384 : Shape := ⟨3, ![1, 256, 384]⟩
abbrev S256x384 : Shape := ⟨2, ![256, 384]⟩
abbrev S256 : Shape := ⟨1, ![256]⟩
abbrev S256x1 : Shape := ⟨2, ![256, 1]⟩
abbrev S1x384 : Shape := ⟨2, ![1, 384]⟩
abbrev S1x256x128 : Shape := ⟨3, ![1, 256, 128]⟩
abbrev S256x128 : Shape := ⟨2, ![256, 128]⟩
abbrev S256x256 : Shape := ⟨2, ![256, 256]⟩
abbrev S1x256x256 : Shape := ⟨3, ![1, 256, 256]⟩
abbrev S2048x256 : Shape := ⟨2, ![2048, 256]⟩

abbrev nBuf : Space → Nat
  | .hbm => 16
  | .vmem => 19
  | .smem => 0
  | _ => 0

abbrev bufTy : (tb : Table) → Fin (tcTables nBuf tb) → BufTy
  | .hbm, ⟨0, _⟩ => ⟨S8x2048x1536, .bf16⟩
  | .hbm, ⟨1, _⟩ => ⟨S8x2048x1536, .bf16⟩
  | .hbm, ⟨2, _⟩ => ⟨S8x2048x4096, .bf16⟩
  | .hbm, ⟨3, _⟩ => ⟨S8x2048x1024, .f32⟩
  | .hbm, ⟨4, _⟩ => ⟨S8x256x1024, .bf16⟩
  | .hbm, ⟨5, _⟩ => ⟨S2x2048x1024, .f32⟩
  | .hbm, ⟨6, _⟩ => ⟨S1x1536, .f32⟩
  | .hbm, ⟨7, _⟩ => ⟨S1x1536, .f32⟩
  | .hbm, ⟨8, _⟩ => ⟨S1x2048x1024, .f32⟩
  | .hbm, ⟨9, _⟩ => ⟨S2048x1024, .f32⟩
  | .hbm, ⟨10, _⟩ => ⟨S2048x1024, .bf16⟩
  | .hbm, ⟨11, _⟩ => ⟨S1536, .f32⟩
  | .hbm, ⟨12, _⟩ => ⟨S1536, .f32⟩
  | .hbm, ⟨13, _⟩ => ⟨S1x1536, .f32⟩
  | .hbm, ⟨14, _⟩ => ⟨S1x1536, .f32⟩
  | .hbm, ⟨15, _⟩ => ⟨S8x2048x1024, .f32⟩
  | .local _ .vmem, ⟨0, _⟩ => ⟨S1x512x1536, .bf16⟩
  | .local _ .vmem, ⟨1, _⟩ => ⟨S1x512x1536, .bf16⟩
  | .local _ .vmem, ⟨2, _⟩ => ⟨S1x512x1536, .bf16⟩
  | .local _ .vmem, ⟨3, _⟩ => ⟨S1x512x1536, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x512x1024, .f32⟩
  | .local _ .vmem, ⟨9, _⟩ => ⟨S1x512x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S2048x1024, .bf16⟩
  | .local _ .vmem, ⟨13, _⟩ => ⟨S1x1536, .f32⟩
  | .local _ .vmem, ⟨14, _⟩ => ⟨S1x1536, .f32⟩
  | .local _ .vmem, ⟨15, _⟩ => ⟨S1x512x1024, .f32⟩
  | .local _ .vmem, ⟨16, _⟩ => ⟨S1x512x1024, .f32⟩
  | .local _ .vmem, ⟨17, _⟩ => ⟨S256x2048, .bf16⟩
  | .local _ .vmem, ⟨18, _⟩ => ⟨S256x2048, .bf16⟩
  | _, _ => ⟨S8x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S8x2048x1536 : Shape := ⟨3, ![8, 2048, 1536]⟩
abbrev S8x2048x4096 : Shape := ⟨3, ![8, 2048, 4096]⟩
abbrev S8x2048x1024 : Shape := ⟨3, ![8, 2048, 1024]⟩
abbrev S8x256x1024 : Shape := ⟨3, ![8, 256, 1024]⟩
abbrev S2x2048x1024 : Shape := ⟨3, ![2, 2048, 1024]⟩
abbrev S1x1536 : Shape := ⟨2, ![1, 1536]⟩
abbrev S8x2048x512 : Shape := ⟨3, ![8, 2048, 512]⟩
abbrev S8x2048x2048 : Shape := ⟨3, ![8, 2048, 2048]⟩
abbrev S8x2048x4x384 : Shape := ⟨4, ![8, 2048, 4, 384]⟩
abbrev S_ : Shape := ⟨0, ![]⟩
abbrev S8x2048x4 : Shape := ⟨3, ![8, 2048, 4]⟩
abbrev S8x2048x4x1 : Shape := ⟨4, ![8, 2048, 4, 1]⟩
abbrev S1536 : Shape := ⟨1, ![1536]⟩
abbrev S1x1x1536 : Shape := ⟨3, ![1, 1, 1536]⟩
abbrev S8x256x512 : Shape := ⟨3, ![8, 256, 512]⟩
abbrev S8x2048x4x128 : Shape := ⟨4, ![8, 2048, 4, 128]⟩
abbrev S8x256x4x128 : Shape := ⟨4, ![8, 256, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S1x2048x1024 : Shape := ⟨3, ![1, 2048, 1024]⟩
abbrev S2048x1024 : Shape := ⟨2, ![2048, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8x2048x1536, .bf16⟩
  | .hbm, ⟨1, _⟩ => ⟨S8x2048x1536, .bf16⟩
  | .hbm, ⟨2, _⟩ => ⟨S8x2048x4096, .bf16⟩
  | .hbm, ⟨3, _⟩ => ⟨S8x2048x1024, .f32⟩
  | .hbm, ⟨4, _⟩ => ⟨S8x256x1024, .bf16⟩
  | .hbm, ⟨5, _⟩ => ⟨S2x2048x1024, .f32⟩
  | .hbm, ⟨6, _⟩ => ⟨S1x1536, .f32⟩
  | .hbm, ⟨7, _⟩ => ⟨S1x1536, .f32⟩
  | .hbm, ⟨8, _⟩ => ⟨S8x2048x1536, .f32⟩
  | .hbm, ⟨9, _⟩ => ⟨S8x2048x1536, .f32⟩
  | .hbm, ⟨10, _⟩ => ⟨S8x2048x4096, .f32⟩
  | .hbm, ⟨11, _⟩ => ⟨S8x256x1024, .f32⟩
  | .hbm, ⟨12, _⟩ => ⟨S8x2048x512, .f32⟩
  | .hbm, ⟨13, _⟩ => ⟨S8x2048x2048, .f32⟩
  | .hbm, ⟨14, _⟩ => ⟨S8x2048x4x384, .f32⟩
  | .hbm, ⟨15, _⟩ => ⟨S_, .f32⟩
  | .hbm, ⟨16, _⟩ => ⟨S8x2048x4, .f32⟩
  | .hbm, ⟨17, _⟩ => ⟨S8x2048x4x1, .f32⟩
  | .hbm, ⟨18, _⟩ => ⟨S_, .f32⟩
  | .hbm, ⟨19, _⟩ => ⟨S8x2048x4x1, .f32⟩
  | .hbm, ⟨20, _⟩ => ⟨S8x2048x4x1, .f32⟩
  | .hbm, ⟨21, _⟩ => ⟨S8x2048x4x384, .f32⟩
  | .hbm, ⟨22, _⟩ => ⟨S8x2048x4x384, .f32⟩
  | .hbm, ⟨23, _⟩ => ⟨S8x2048x4x384, .f32⟩
  | .hbm, ⟨24, _⟩ => ⟨S_, .f32⟩
  | .hbm, ⟨25, _⟩ => ⟨S8x2048x4, .f32⟩
  | .hbm, ⟨26, _⟩ => ⟨S8x2048x4x1, .f32⟩
  | .hbm, ⟨27, _⟩ => ⟨S_, .f32⟩
  | .hbm, ⟨28, _⟩ => ⟨S8x2048x4x1, .f32⟩
  | .hbm, ⟨29, _⟩ => ⟨S8x2048x4x1, .f32⟩
  | .hbm, ⟨30, _⟩ => ⟨S8x2048x4x384, .f32⟩
  | .hbm, ⟨31, _⟩ => ⟨S8x2048x4x384, .f32⟩
  | .hbm, ⟨32, _⟩ => ⟨S_, .f32⟩
  | .hbm, ⟨33, _⟩ => ⟨S8x2048x4x1, .f32⟩
  | .hbm, ⟨34, _⟩ => ⟨S8x2048x4x1, .f32⟩
  | .hbm, ⟨35, _⟩ => ⟨S8x2048x4x1, .f32⟩
  | .hbm, ⟨36, _⟩ => ⟨S8x2048x4x384, .f32⟩
  | .hbm, ⟨37, _⟩ => ⟨S8x2048x4x384, .f32⟩
  | .hbm, ⟨38, _⟩ => ⟨S8x2048x1536, .f32⟩
  | .hbm, ⟨39, _⟩ => ⟨S1536, .f32⟩
  | .hbm, ⟨40, _⟩ => ⟨S1x1x1536, .f32⟩
  | .hbm, ⟨41, _⟩ => ⟨S8x2048x1536, .f32⟩
  | .hbm, ⟨42, _⟩ => ⟨S8x2048x1536, .f32⟩
  | .hbm, ⟨43, _⟩ => ⟨S1536, .f32⟩
  | .hbm, ⟨44, _⟩ => ⟨S1x1x1536, .f32⟩
  | .hbm, ⟨45, _⟩ => ⟨S8x2048x1536, .f32⟩
  | .hbm, ⟨46, _⟩ => ⟨S8x2048x1536, .f32⟩
  | .hbm, ⟨47, _⟩ => ⟨S8x2048x1536, .f32⟩
  | .hbm, ⟨48, _⟩ => ⟨S8x256x512, .f32⟩
  | .hbm, ⟨49, _⟩ => ⟨S8x256x512, .f32⟩
  | .hbm, ⟨50, _⟩ => ⟨S8x2048x4x128, .f32⟩
  | .hbm, ⟨51, _⟩ => ⟨S8x256x4x128, .f32⟩
  | .hbm, ⟨52, _⟩ => ⟨S8x256x4x128, .f32⟩
  | .hbm, ⟨53, _⟩ => ⟨S8x4x2048x256, .f32⟩
  | .hbm, ⟨54, _⟩ => ⟨S_, .f32⟩
  | .hbm, ⟨55, _⟩ => ⟨S8x4x2048x256, .f32⟩
  | .hbm, ⟨56, _⟩ => ⟨S8x4x2048x256, .f32⟩
  | .hbm, ⟨57, _⟩ => ⟨S_, .f32⟩
  | .hbm, ⟨58, _⟩ => ⟨S8x4x2048, .f32⟩
  | .hbm, ⟨59, _⟩ => ⟨S_, .f32⟩
  | .hbm, ⟨60, _⟩ => ⟨S8x4x2048, .f32⟩
  | .hbm, ⟨61, _⟩ => ⟨S8x4x2048, .f32⟩
  | .hbm, ⟨62, _⟩ => ⟨S8x4x2048x1, .f32⟩
  | .hbm, ⟨63, _⟩ => ⟨S8x4x2048x256, .f32⟩
  | .hbm, ⟨64, _⟩ => ⟨S8x4x2048x256, .f32⟩
  | .hbm, ⟨65, _⟩ => ⟨S8x4x2048x256, .f32⟩
  | .hbm, ⟨66, _⟩ => ⟨S_, .f32⟩
  | .hbm, ⟨67, _⟩ => ⟨S8x4x2048, .f32⟩
  | .hbm, ⟨68, _⟩ => ⟨S8x4x2048x1, .f32⟩
  | .hbm, ⟨69, _⟩ => ⟨S8x4x2048x256, .f32⟩
  | .hbm, ⟨70, _⟩ => ⟨S8x4x2048x256, .f32⟩
  | .hbm, ⟨71, _⟩ => ⟨S8x4x128x2048, .f32⟩
  | .hbm, ⟨72, _⟩ => ⟨S8x2048x4x128, .f32⟩
  | .hbm, ⟨73, _⟩ => ⟨S8x2048x512, .f32⟩
  | .hbm, ⟨74, _⟩ => ⟨S8x2048x2048, .f32⟩
  | .hbm, ⟨75, _⟩ => ⟨S8x2048x2048, .f32⟩
  | .hbm, ⟨76, _⟩ => ⟨S8x2048x2048, .f32⟩
  | .hbm, ⟨77, _⟩ => ⟨S_, .f32⟩
  | .hbm, ⟨78, _⟩ => ⟨S8x2048x2048, .f32⟩
  | .hbm, ⟨79, _⟩ => ⟨S8x2048x2048, .f32⟩
  | .hbm, ⟨80, _⟩ => ⟨S_, .f32⟩
  | .hbm, ⟨81, _⟩ => ⟨S8x2048x2048, .f32⟩
  | .hbm, ⟨82, _⟩ => ⟨S8x2048x2048, .f32⟩
  | .hbm, ⟨83, _⟩ => ⟨S8x2048x2048, .f32⟩
  | .hbm, ⟨84, _⟩ => ⟨S8x2048x2048, .f32⟩
  | .hbm, ⟨85, _⟩ => ⟨S1x2048x1024, .f32⟩
  | .hbm, ⟨86, _⟩ => ⟨S2048x1024, .f32⟩
  | .hbm, ⟨87, _⟩ => ⟨S8x2048x1024, .f32⟩
  | .hbm, ⟨88, _⟩ => ⟨S8x2048x1024, .f32⟩
  | _, _ => ⟨S8x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== Proof.Reals.lean ====
/- Facts about the extended reals that the calls of the layer share: the constants the programs carry as bit patterns,
   the half-angle form of the logistic function, a product with a zero-or-one mask as a sum over a group of lanes, and
   a quotient taken after a weighted sum against one taken before it. -/
module

public import Idealize.ShloMosaic.Lib.Pointwise
public import Idealize.ShloMosaic.Lib.IdealHost

@[expose] public section

noncomputable section

namespace Cert.Layer

open Idealize.ShloMosaic

/-! ## Constants -/

theorem ofBits_half : Ideal.ofBits .f32 0x3F000000#32 = (((1 : ℝ) / 2 : ℝ) : EReal) := by
  simp [Ideal.ofBits, Ideal.ieee, -EReal.coe_mul]; norm_num

theorem ofBits_64th : Ideal.ofBits .f32 0x3C800000#32 = (((1 : ℝ) / 64 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

/-- The maximum's starting value is minus infinity. -/
theorem ofBits_negInf : Ideal.ofBits .f32 0xFF800000#32 = (⊥ : EReal) := by
  simp [Ideal.ofBits, Ideal.ieee]

/-- Multiplying by the constant one sixty-fourth is dividing by the constant sixty-four. -/
theorem mul_64th (x : EReal) :
    x * Ideal.ofBits .f32 0x3C800000#32 = Ideal.div x (Ideal.ofBits .f32 0x42800000#32) := by
  rw [ofBits_64th, ofBits_64, Ideal.div, if_neg (by norm_num), ← EReal.coe_inv, one_div]

/-! ## The logistic function by the hyperbolic tangent -/

/-- `½ tanh(½ x) + ½` is the logistic function of `x`, at the infinities too. -/
theorem half_tanh (x : EReal) :
    Ideal.ofBits .f32 0x3F000000#32 * Ideal.tanh (Ideal.ofBits .f32 0x3F000000#32 * x)
      + Ideal.ofBits .f32 0x3F000000#32 = Ideal.logistic x := by
  rw [ofBits_half]
  have hp : (0 : ℝ) < 1 / 2 := by norm_num
  induction x using EReal.rec with
  | bot =>
    rw [EReal.coe_mul_bot_of_pos hp, Ideal.tanh_bot, Ideal.logistic_bot]
    rw [show (-1 : EReal) = ((-1 : ℝ) : EReal) by rw [EReal.coe_neg, EReal.coe_one], ← EReal.coe_mul, ← EReal.coe_add]
    norm_num
  | top =>
    rw [EReal.coe_mul_top_of_pos hp, Ideal.tanh_top, Ideal.logistic_top, mul_one, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by
      rw [← Real.exp_add]; congr 1; ring
    have h2 : Real.exp (1 / 2 * r) * Real.exp (-(1 / 2 * r)) = 1 := by
      rw [← Real.exp_add]; simp
    have ha := Real.exp_pos (1 / 2 * r)
    have hb := Real.exp_pos (-(1 / 2 * r))
    rw [h1]
    generalize Real.exp (1 / 2 * r) = a at *
    generalize Real.exp (-(1 / 2 * r)) = b at *
    have hab : a = b⁻¹ := eq_inv_of_mul_eq_one_left h2
    subst hab
    have : (0 : ℝ) < 1 + b * b := by positivity
    field_simp
    ring

/-! ## Sums -/

/-- A nonnegative real factor goes through a finite sum of extended reals. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (by exact_mod_cast hr) (EReal.coe_ne_top r)]

/-- A weighted sum divided by a positive real is the sum weighted by the quotients. -/
theorem div_sum {ι : Type*} (s : Finset ι) (p v : ι → EReal) {S : ℝ} (hS : 0 < S) :
    Ideal.div (∑ i ∈ s, p i * v i) (S : EReal) = ∑ i ∈ s, Ideal.div (p i) (S : EReal) * v i := by
  have hne : (S : EReal) ≠ 0 := by exact_mod_cast hS.ne'
  simp only [Ideal.div, if_neg hne, ← EReal.coe_inv]
  rw [sum_mul_real s _ (inv_nonneg.mpr hS.le)]
  exact Finset.sum_congr rfl fun i _ => mul_right_comm _ _ _

/-- A sum over 128 lanes with a mask that is one on the lanes of `j`'s group of 64 and zero elsewhere is the sum over
    the group. -/
theorem sum_mask (x : Fin 128 → EReal) (j : Fin 128) :
    (∑ l : Fin 128, x l * (if l.val / 64 = j.val / 64 then 1 else 0))
      = ∑ k : Fin 64, x ⟨64 * (j.val / 64) + k.val, by omega⟩ := by
  have h1 : ∀ l : Fin 128, x l * (if l.val / 64 = j.val / 64 then (1 : EReal) else 0)
      = if l.val / 64 = j.val / 64 then x l else 0 := fun l => by split <;> simp
  simp only [h1]
  rw [← Finset.sum_filter]
  symm
  refine Finset.sum_bij (fun (k : Fin 64) _ => (⟨64 * (j.val / 64) + k.val, by omega⟩ : Fin 128)) ?_ ?_ ?_ ?_
  · intro k _
    simp only [Finset.mem_filter, Finset.mem_univ, true_and]
    omega
  · intro a _ b _ h
    simp only [Fin.mk.injEq] at h
    exact Fin.ext (by omega)
  · intro l hl
    simp only [Finset.mem_filter, Finset.mem_univ, true_and] at hl
    exact ⟨⟨l.val % 64, by omega⟩, Finset.mem_univ _, Fin.ext (by simp only []; omega)⟩
  · intro k _; rfl

/-! ## Weights of finite scores -/

/-- A finite sum of reals is a real. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A running maximum of finitely many reals from minus infinity is a real, where there is one at all. -/
theorem fold_max_coe {ι : Type*} (s : Finset ι) (hs : s.Nonempty) (f : ι → ℝ) :
    ∃ r : ℝ, s.fold max (⊥ : EReal) (fun i => (f i : EReal)) = (r : EReal) := by
  classical
  induction hs using Finset.Nonempty.cons_induction with
  | singleton a => exact ⟨f a, by simp⟩
  | cons a s ha hs ih =>
    obtain ⟨r, hr⟩ := ih
    exact ⟨max (f a) r, by rw [Finset.fold_cons, hr]; exact (EReal.coe_strictMono.monotone.map_max).symm⟩

/-- For finite scores, the weighted sum over the exponentials' total is the sum under the normalized weights. -/
theorem softmax_sum {n : ℕ} [NeZero n] (s : Fin n → ℝ) (v : Fin n → EReal) (mx : ℝ) :
    Ideal.div (∑ i, Ideal.exp ((s i : EReal) - mx) * v i) (∑ i, Ideal.exp ((s i : EReal) - mx))
      = ∑ i, Ideal.div (Ideal.exp ((s i : EReal) - mx)) (∑ i, Ideal.exp ((s i : EReal) - mx)) * v i := by
  have hS : (∑ i, Ideal.exp ((s i : EReal) - mx)) = ((∑ i, Real.exp (s i - mx) : ℝ) : EReal) := by
    rw [← sum_coe]
    exact Finset.sum_congr rfl fun i _ => by rw [← EReal.coe_sub, Ideal.exp_coe]
  rw [hS]
  exact div_sum _ _ _ (Finset.sum_pos (fun i _ => Real.exp_pos _) ⟨0, Finset.mem_univ _⟩)

end Cert.Layer
-- ==== Proof.OutRow.lean ====
/- One row of the layer's last stage, written plainly: the recurrence's output normalized over groups of 64 lanes, the
   attention of the row's queries over the batch's memory, the gate, the projection with its residual, and the last
   norm. Every array is a function of its coordinates; a row depends on one row of each activation. -/
module

public import proofs.«01_k».proof.Proof.Reals

@[expose] public section

noncomputable section

namespace Cert.Layer

open Idealize.ShloMosaic

/-- Lane `k` of group `h`. -/
abbrev lane64 (h : Fin 24) (k : Fin 64) : Fin 1536 := ⟨h.val * 64 + k.val, by omega⟩

/-- The group of lane `c`. -/
abbrev group64 (c : Fin 1536) : Fin 24 := ⟨c.val / 64, by omega⟩

/-- Lane `d` of head `n` of the memory attention. -/
abbrev lane128 (n : Fin 4) (d : Fin 128) : Fin 512 := ⟨n.val * 128 + d.val, by omega⟩

/-- The mean of a group. -/
def groupMean (o : Fin 1536 → EReal) (h : Fin 24) : EReal :=
  Ideal.div (∑ k : Fin 64, o (lane64 h k)) (Ideal.ofBits .f32 0x42800000#32)

/-- The variance of a group. -/
def groupVar (o : Fin 1536 → EReal) (h : Fin 24) : EReal :=
  Ideal.div (∑ k : Fin 64, (o (lane64 h k) - groupMean o h) * (o (lane64 h k) - groupMean o h))
    (Ideal.ofBits .f32 0x42800000#32)

/-- The normalized, scaled and shifted lane with the bonus, under its gate. -/
def normed (o g bonus lg lb : Fin 1536 → EReal) (c : Fin 1536) : EReal :=
  ((o c - groupMean o (group64 c))
      * Ideal.rsqrt (groupVar o (group64 c) + Ideal.ofBits .f32 0x3A27C5AC#32) * lg c + lb c + bonus c) * g c

/-- The scaled score of the row's query against memory slot `m`, in head `n`. -/
def score (q : Fin 512 → EReal) (K : Fin 256 → Fin 512 → EReal) (n : Fin 4) (m : Fin 256) : EReal :=
  (∑ d : Fin 128, q (lane128 n d) * K m (lane128 n d)) * Ideal.ofBits .f32 0x3DB504F3#32

/-- The largest score of head `n`. -/
def peak (q : Fin 512 → EReal) (K : Fin 256 → Fin 512 → EReal) (n : Fin 4) : EReal :=
  Finset.univ.fold max (⊥ : EReal) fun m => score q K n m

/-- The unnormalized weight of slot `m`. -/
def weight (q : Fin 512 → EReal) (K : Fin 256 → Fin 512 → EReal) (n : Fin 4) (m : Fin 256) : EReal :=
  Ideal.exp (score q K n m - peak q K n)

/-- The weights' total. -/
def total (q : Fin 512 → EReal) (K : Fin 256 → Fin 512 → EReal) (n : Fin 4) : EReal :=
  ∑ m : Fin 256, weight q K n m

/-- What head `n` reads from the memory at lane `d`. -/
def attend (q : Fin 512 → EReal) (K V : Fin 256 → Fin 512 → EReal) (n : Fin 4) (d : Fin 128) : EReal :=
  ∑ m : Fin 256, Ideal.div (weight q K n m) (total q K n) * V m (lane128 n d)

/-- The same with the division after the sum. -/
def attendLate (q : Fin 512 → EReal) (K V : Fin 256 → Fin 512 → EReal) (n : Fin 4) (d : Fin 128) : EReal :=
  Ideal.div (∑ m : Fin 256, weight q K n m * V m (lane128 n d)) (total q K n)

/-- `x` times its logistic. -/
def silu (x : EReal) : EReal := x * Ideal.logistic x

/-- A row with the projection of `y` added. -/
def projected {n : ℕ} (x : Fin n → EReal) (y : Fin 2048 → EReal) (w : Fin 2048 → Fin n → EReal) (j : Fin n) : EReal :=
  x j + ∑ k : Fin 2048, y k * w k j

/-- The root-mean-square norm of a row. -/
def rmsNorm (x fg : Fin 1024 → EReal) (j : Fin 1024) : EReal :=
  x j * Ideal.rsqrt (Ideal.div (∑ k : Fin 1024, x k * x k) (Ideal.ofBits .f32 0x44800000#32)
    + Ideal.ofBits .f32 0x358637BD#32) * fg j

/-- The gated concatenation of the normalized lanes `nrm` and the attention's lanes `att`. -/
def gated (nrm : Fin 1536 → EReal) (att : Fin 4 → Fin 128 → EReal) (z : Fin 2048 → EReal) (c : Fin 2048) : EReal :=
  (if h : c.val < 1536 then nrm ⟨c.val, h⟩
    else att ⟨(c.val - 1536) / 128, by omega⟩ ⟨(c.val - 1536) % 128, by omega⟩) * silu (z c)

/-- A real score: finite queries and keys have a real score. -/
theorem score_real {q : Fin 512 → EReal} {K : Fin 256 → Fin 512 → EReal} (hq : ∀ c, ∃ r : ℝ, q c = r)
    (hK : ∀ m c, ∃ r : ℝ, K m c = r) (n : Fin 4) (m : Fin 256) : ∃ r : ℝ, score q K n m = r := by
  choose a ha using hq
  choose b hb using hK
  have hc : ∃ r : ℝ, Ideal.ofBits .f32 0x3DB504F3#32 = (r : EReal) :=
    ⟨_, by simp only [Ideal.ofBits, Ideal.ieee]; simp [-EReal.coe_mul]; rfl⟩
  obtain ⟨s, hs⟩ := hc
  refine ⟨(∑ d : Fin 128, a (lane128 n d) * b m (lane128 n d)) * s, ?_⟩
  unfold score
  rw [hs, EReal.coe_mul, ← sum_coe]
  congr 1
  exact Finset.sum_congr rfl fun d _ => by rw [ha, hb, EReal.coe_mul]

/-- With finite queries and keys it makes no difference whether the weights are normalized before or after the sum. -/
theorem attendLate_eq {q : Fin 512 → EReal} {K : Fin 256 → Fin 512 → EReal} (V : Fin 256 → Fin 512 → EReal)
    (hq : ∀ c, ∃ r : ℝ, q c = r) (hK : ∀ m c, ∃ r : ℝ, K m c = r) (n : Fin 4) (d : Fin 128) :
    attendLate q K V n d = attend q K V n d := by
  have hs := score_real hq hK n
  choose s hs using hs
  obtain ⟨mx, hmx⟩ := fold_max_coe Finset.univ ⟨(0 : Fin 256), Finset.mem_univ _⟩ s
  have hp : peak q K n = mx := by unfold peak; simp only [hs]; exact hmx
  have hw : ∀ m, weight q K n m = Ideal.exp ((s m : EReal) - mx) := fun m => by unfold weight; rw [hs, hp]
  unfold attendLate attend total
  simp only [hw]
  exact softmax_sum s _ mx

end Cert.Layer
-- ==== Proof.OutTile.lean ====
/- The pieces of work of the kernel's last stage, read at an index: the normalization of a tile of 128 lanes, one head of
   the memory attention, a tile of the projection, and the last norm of a block of rows. -/
module

public import proofs.«01_k».proof.Proof.OutRow
public import proofs.«01_k».proof.Proof.Gen.KernelIdeal.Skeleton

@[expose] public section

set_option maxRecDepth 16384

noncomputable section

namespace Cert.KernelIdeal.Row

open Cert.KernelIdeal Cert.KernelIdeal.Gen Cert.Layer
open Idealize.ShloMosaic

/-- A tile of 128 lanes normalized, scaled, shifted, with the bonus and under both gates. -/
def normTile (seg bn gg zz : Vec Ideal S1x256x128 .bf16) (e : Vec Ideal S128x128 .bf16) (lg lb : Vec Ideal S1x128 .f32) :
    FVec Ideal S256x128 .bf16 :=
  k0_pay4 (k0_pay2 seg e e lg lb bn) (k0_pay3 gg) zz

/-- One head of the memory attention under its gate. -/
def headTile (q k v z : Vec Ideal S1x256x128 .bf16) : FVec Ideal S256x128 .bf16 :=
  k0_pay45 (k0_pay43 q) (k0_pay44 k) v z

/-- A tile of the projection with its residual. -/
def projTile (x : Vec Ideal S1x256x256 .f32) (y : Vec Ideal S256x2048 .bf16) (w : Vec Ideal S2048x256 .bf16) :
    FVec Ideal S1x256x256 .f32 :=
  k0_pay112 x y w

/-- The last norm of a block of rows. -/
def normRows (x : Vec Ideal S1x256x1024 .f32) (g : Vec Ideal S1x1024 .f32) : FVec Ideal S1x256x1024 .f32 :=
  k0_pay97 x g

theorem normTile_row (i : ℕ) (hi : i < 12) {seg bn gg zz : Vec Ideal S1x256x128 .bf16} {e : Vec Ideal S128x128 .bf16}
    {lg lb : Vec Ideal S1x128 .f32} {O G B LG LB : Fin 1536 → EReal} {Z : Fin 2048 → EReal} {r : Fin 256}
    (he : ∀ l j : Fin 128, e (ix2 l j) = if l.val / 64 = j.val / 64 then (1 : EReal) else 0)
    (hO : ∀ l : Fin 128, seg (ix3 0 r l) = O ⟨i * 128 + l.val, by omega⟩)
    (hG : ∀ l : Fin 128, gg (ix3 0 r l) = G ⟨i * 128 + l.val, by omega⟩)
    (hB : ∀ l : Fin 128, bn (ix3 0 r l) = B ⟨i * 128 + l.val, by omega⟩)
    (hLG : ∀ l : Fin 128, lg (ix2 0 l) = LG ⟨i * 128 + l.val, by omega⟩)
    (hLB : ∀ l : Fin 128, lb (ix2 0 l) = LB ⟨i * 128 + l.val, by omega⟩)
    (hZ : ∀ l : Fin 128, zz (ix3 0 r l) = Z ⟨i * 128 + l.val, by omega⟩) (j : Fin 128) :
    normTile seg bn gg zz e lg lb (ix2 r j)
      = normed O G B LG LB ⟨i * 128 + j.val, by omega⟩ * silu (Z ⟨i * 128 + j.val, by omega⟩) := by
  have hm : ∀ j : Fin 128, Ideal.div (∑ k : Fin 64, seg (ix3 0 r ⟨64 * (j.val / 64) + k.val, by omega⟩))
      (Ideal.ofBits .f32 0x42800000#32) = groupMean O (group64 ⟨i * 128 + j.val, by omega⟩) := fun j => by
    unfold groupMean
    refine congrArg (Ideal.div · _) (Finset.sum_congr rfl fun k _ => ?_)
    rw [hO]
    refine congrArg O (Fin.ext ?_)
    show i * 128 + (64 * (j.val / 64) + k.val) = (i * 128 + j.val) / 64 * 64 + k.val
    omega
  have hv : ∀ j : Fin 128, Ideal.div (∑ x : Fin 64,
        (seg (ix3 0 r ⟨64 * (j.val / 64) + x.val, by omega⟩) - groupMean O (group64 ⟨i * 128 + (64 * (j.val / 64) + x.val), by omega⟩))
          * (seg (ix3 0 r ⟨64 * (j.val / 64) + x.val, by omega⟩) - groupMean O (group64 ⟨i * 128 + (64 * (j.val / 64) + x.val), by omega⟩)))
      (Ideal.ofBits .f32 0x42800000#32) = groupVar O (group64 ⟨i * 128 + j.val, by omega⟩) := fun j => by
    unfold groupVar
    refine congrArg (Ideal.div · _) (Finset.sum_congr rfl fun k _ => ?_)
    have h1 : (⟨i * 128 + (64 * (j.val / 64) + k.val), by omega⟩ : Fin 1536)
        = lane64 (group64 ⟨i * 128 + j.val, by omega⟩) k := Fin.ext (by
      show i * 128 + (64 * (j.val / 64) + k.val) = (i * 128 + j.val) / 64 * 64 + k.val
      omega)
    have h2 : group64 ⟨i * 128 + (64 * (j.val / 64) + k.val), by omega⟩ = group64 ⟨i * 128 + j.val, by omega⟩ :=
      Fin.ext (by
        show (i * 128 + (64 * (j.val / 64) + k.val)) / 64 = (i * 128 + j.val) / 64
        omega)
    rw [h2, hO, h1]
  unfold normTile
  pointwise [k0_pay4, k0_pay3, k0_pay2]
  simp only [he, sum_mask, mul_64th, half_tanh]
  have hm' : ∀ j : Fin 128, ∀ x : Fin 64, _ := fun j x => hm ⟨64 * (j.val / 64) + x.val, by omega⟩
  dsimp only at hm'
  simp only [hm, hm', hv]
  rw [hO, hG, hB, hLG, hLB, hZ]
  rfl

theorem headTile_row (n : Fin 4) {q k v z : Vec Ideal S1x256x128 .bf16} {Q : Fin 512 → EReal} {K V : Fin 256 → Fin 512 → EReal}
    {Z : Fin 2048 → EReal} {r : Fin 256}
    (hq : ∀ d : Fin 128, q (ix3 0 r d) = Q (lane128 n d))
    (hk : ∀ (m : Fin 256) (d : Fin 128), k (ix3 0 m d) = K m (lane128 n d))
    (hv : ∀ (m : Fin 256) (d : Fin 128), v (ix3 0 m d) = V m (lane128 n d))
    (hz : ∀ d : Fin 128, z (ix3 0 r d) = Z ⟨1536 + n.val * 128 + d.val, by omega⟩) (j : Fin 128) :
    headTile q k v z (ix2 r j) = attendLate Q K V n j * silu (Z ⟨1536 + n.val * 128 + j.val, by omega⟩) := by
  unfold headTile
  pointwise [k0_pay45, k0_pay43, k0_pay44]
  simp only [half_tanh, ofBits_negInf, hq, hk, hv, hz]
  rfl

theorem projTile_row (i : ℕ) (hi : i < 4) {x : Vec Ideal S1x256x256 .f32} {y : Vec Ideal S256x2048 .bf16}
    {w : Vec Ideal S2048x256 .bf16} {X : Fin 1024 → EReal} {Y : Fin 2048 → EReal} {W : Fin 2048 → Fin 1024 → EReal} {r : Fin 256}
    (hx : ∀ l : Fin 256, x (ix3 0 r l) = X ⟨i * 256 + l.val, by omega⟩)
    (hy : ∀ c : Fin 2048, y (ix2 r c) = Y c)
    (hw : ∀ (c : Fin 2048) (l : Fin 256), w (ix2 c l) = W c ⟨i * 256 + l.val, by omega⟩) (j : Fin 256) :
    projTile x y w (ix3 0 r j) = projected X Y W ⟨i * 256 + j.val, by omega⟩ := by
  unfold projTile
  pointwise [k0_pay112]
  simp only [hx, hy, hw]
  rfl

theorem normRows_row {x : Vec Ideal S1x256x1024 .f32} {g : Vec Ideal S1x1024 .f32} {X G : Fin 1024 → EReal} {r : Fin 256}
    (hx : ∀ l : Fin 1024, x (ix3 0 r l) = X l) (hg : ∀ l : Fin 1024, g (ix2 0 l) = G l) (j : Fin 1024) :
    normRows x g (ix3 0 r j) = rmsNorm X G j := by
  unfold normRows
  pointwise [k0_pay97]
  simp only [hx, hg]
  rfl

end Cert.KernelIdeal.Row
-- ==== Proof.OutWords.lean ====
/- What one grid point of the kernel's last stage leaves in its two row buffers: every lane of every row is the gated
   normalized lane or the gated attention of that row. -/
module

public import proofs.«01_k».proof.Proof.OutTile
public import proofs.«01_k».proof.Proof.Gen.KernelIdeal.Value
public import Idealize.ShloMosaic.Lib.Pipeline.ValueKit.Geometry
public import Idealize.ShloMosaic.Lib.Pipeline.ValueKit.Tiles

@[expose] public section

set_option maxRecDepth 16384

noncomputable section

namespace Cert.KernelIdeal.Row

open Cert.KernelIdeal Cert.KernelIdeal.Gen Cert.Layer
open Idealize.ShloMosaic Idealize.SL.Sem

/-- A load of a box of a staged plane, at an index. -/
theorem load3 {R C p q : ℕ} {el : EltTy} {arg : Memref sig .tc .vmem ⟨3, ![1, R, C]⟩ el} (harg : arg.IsWhole)
    (x : Vec Ideal ⟨3, ![1, R, C]⟩ el) (a b : ℕ)
    (inb : ∀ t, (![0, a, b] : Fin 3 → ℕ) t + (![1, p, q] : Fin 3 → ℕ) t ≤ (![1, R, C] : Fin 3 → ℕ) t)
    (r : Fin p) (l : Fin q) (i : Fin R) (j : Fin C)
    (hi : i.val = a + r.val) (hj : j.val = b + l.val) :
    View.readAt (Elt Ideal) arg.view (Rect.unit (s := ⟨3, ![1, R, C]⟩) ![0, a, b] ![1, p, q] inb).toLoadRect (harg.unread x)
        (ix3 (0 : Fin 1) r l)
      = x (ix3 0 i j) := by
  rw [View.readAt_eq_ld, harg.read_unread]
  exact View.ld_unit_apply_of x _ _ _ _ _ fun t => by
    fin_cases t
    · rfl
    · exact hi
    · exact hj

/-- A load of a box of a staged matrix, at an index. -/
theorem load2 {R C p q : ℕ} {el : EltTy} {arg : Memref sig .tc .vmem ⟨2, ![R, C]⟩ el} (harg : arg.IsWhole)
    (x : Vec Ideal ⟨2, ![R, C]⟩ el) (a b : ℕ)
    (inb : ∀ t, (![a, b] : Fin 2 → ℕ) t + (![p, q] : Fin 2 → ℕ) t ≤ (![R, C] : Fin 2 → ℕ) t)
    (r : Fin p) (l : Fin q) (i : Fin R) (j : Fin C)
    (hi : i.val = a + r.val) (hj : j.val = b + l.val) :
    View.readAt (Elt Ideal) arg.view (Rect.unit (s := ⟨2, ![R, C]⟩) ![a, b] ![p, q] inb).toLoadRect (harg.unread x) (ix2 r l)
      = x (ix2 i j) := by
  rw [View.readAt_eq_ld, harg.read_unread]
  exact View.ld_unit_apply_of x _ _ _ _ _ fun t => by
    fin_cases t
    · exact hi
    · exact hj

section

variable (c : Dev nD)
variable (arg2 : Memref sig .tc .vmem S1x512x1536 .bf16) (harg2 : arg2.IsWhole) (arg3 : Memref sig .tc .vmem S1x512x1536 .bf16)
  (harg3 : arg3.IsWhole) (arg4 : Memref sig .tc .vmem S1x512x1536 .bf16) (harg4 : arg4.IsWhole)
  (arg5 : Memref sig .tc .vmem S1x512x512 .bf16) (harg5 : arg5.IsWhole) (arg6 : Memref sig .tc .vmem S1x512x1024 .bf16)
  (harg6 : arg6.IsWhole) (arg7 : Memref sig .tc .vmem S1x512x1024 .bf16) (harg7 : arg7.IsWhole)
  (arg8 : Memref sig .tc .vmem S1x512x1024 .f32) (harg8 : arg8.IsWhole) (arg9 : Memref sig .tc .vmem S1x256x1024 .bf16)
  (harg9 : arg9.IsWhole) (arg10 : Memref sig .tc .vmem S2048x1024 .bf16) (harg10 : arg10.IsWhole)
  (arg11 : Memref sig .tc .vmem S1x1536 .f32) (harg11 : arg11.IsWhole) (arg12 : Memref sig .tc .vmem S1x1536 .f32)
  (harg12 : arg12.IsWhole) (arg13 : Memref sig .tc .vmem S1x1024 .f32) (harg13 : arg13.IsWhole)
  (arg14 : Memref sig .tc .vmem S128x128 .bf16) (harg14 : arg14.IsWhole)
  (arg15 : Memref sig .tc .vmem S1x512x1024 .f32) (arg16 arg17 : Memref sig .tc .vmem S256x2048 .bf16)
variable (x0 x1 x2 : Vec Ideal S1x512x1536 .bf16) (x3 : Vec Ideal S1x512x512 .bf16) (x4 x5 : Vec Ideal S1x512x1024 .bf16)
  (x6 : Vec Ideal S1x512x1024 .f32) (x7 : Vec Ideal S1x256x1024 .bf16) (x8 : Vec Ideal S2048x1024 .bf16)
  (x9 x10 : Vec Ideal S1x1536 .f32) (x11 : Vec Ideal S1x1024 .f32) (x12 : Vec Ideal S128x128 .bf16)

/-- The gate's input of row `r`: the first half of its lanes from one block, the rest from the next. -/
def gateRow (r : Fin 512) (k : Fin 2048) : EReal :=
  if h : k.val < 1024 then x4 (ix3 0 r ⟨k.val, h⟩) else x5 (ix3 0 r ⟨k.val - 1024, by omega⟩)

/-- Row `r` of a grid point's blocks, gated: what the projection multiplies. -/
def blockRow (r : Fin 512) : Fin 2048 → EReal :=
  gated (normed (fun k => x0 (ix3 0 r k)) (fun k => x1 (ix3 0 r k)) (fun k => x2 (ix3 0 r k)) (fun k => x9 (ix2 0 k))
      (fun k => x10 (ix2 0 k)))
    (attendLate (fun k => x3 (ix3 0 r k)) (fun m k => x7 (ix3 0 m ⟨k.val, by omega⟩))
      (fun m k => x7 (ix3 0 m ⟨512 + k.val, by omega⟩)))
    (gateRow x4 x5 r)

/-- The gated rows of row block `s`, as the array a row buffer holds. -/
def bufferRows (s : Fin 2) (i : S256x2048.Idx) : EReal :=
  blockRow x0 x1 x2 x3 x4 x5 x7 x9 x10 ⟨s.val * 256 + (i 0).val, by
    have h : (i 0).val < 256 := (i 0).isLt
    omega⟩ (i 1)

theorem gated_norm {nrm : Fin 1536 → EReal} {att : Fin 4 → Fin 128 → EReal} {z : Fin 2048 → EReal} (k : ℕ) (h : k < 1536) :
    gated nrm att z ⟨k, by omega⟩ = nrm ⟨k, h⟩ * silu (z ⟨k, by omega⟩) := by
  unfold gated
  rw [dif_pos h]

theorem gated_head {nrm : Fin 1536 → EReal} {att : Fin 4 → Fin 128 → EReal} {z : Fin 2048 → EReal} (n : Fin 4) (d : Fin 128) :
    gated nrm att z ⟨1536 + n.val * 128 + d.val, by omega⟩
      = att n d * silu (z ⟨1536 + n.val * 128 + d.val, by omega⟩) := by
  unfold gated
  rw [dif_neg (show ¬ (1536 + n.val * 128 + d.val < 1536) by omega)]
  have h1 : (⟨(1536 + n.val * 128 + d.val - 1536) / 128, by omega⟩ : Fin 4) = n := Fin.ext (by
    show (1536 + n.val * 128 + d.val - 1536) / 128 = n.val
    omega)
  have h2 : (⟨(1536 + n.val * 128 + d.val - 1536) % 128, by omega⟩ : Fin 128) = d := Fin.ext (by
    show (1536 + n.val * 128 + d.val - 1536) % 128 = d.val
    omega)
  rw [h1, h2]

/-- The array index a box of a row buffer places `(r, j)` at. -/
theorem emb_buffer (o : ℕ) (inb) (ho : o + 128 ≤ 2048) (r : Fin 256) (j : Fin 128) :
    (Rect.unit (s := S256x2048) ![0, o] S256x128.size inb).emb (ix2 r j)
      = (ix2 r (⟨o + j.val, by omega⟩ : Fin 2048)) := by
  funext a
  apply Fin.ext
  rw [ValueKit.rect_emb_unit_val]
  fin_cases a
  · show 0 + r.val = r.val
    omega
  · rfl

variable {x12}

/-- A normalized tile among the first eight, where a row block's loads are read. -/
theorem tile_low (s : Fin 2) (i : ℕ) (hi : i < 8) (he : ∀ l j : Fin 128, x12 (ix2 l j) = if l.val / 64 = j.val / 64 then (1 : EReal) else 0)
    {b0 b1 b2 b4 b9 b10 b12 b16} (y : (Rect.unit (s := S256x2048) ![0, i * 128] S256x128.size b16).shape.Idx) :
    normTile (View.readAt (Elt Ideal) arg2.view (Rect.unit (s := S1x512x1536) ![0, s.val * 256, i * 128] S1x256x128.size b0).toLoadRect (harg2.unread x0))
        (View.readAt (Elt Ideal) arg4.view (Rect.unit (s := S1x512x1536) ![0, s.val * 256, i * 128] S1x256x128.size b2).toLoadRect (harg4.unread x2))
        (View.readAt (Elt Ideal) arg3.view (Rect.unit (s := S1x512x1536) ![0, s.val * 256, i * 128] S1x256x128.size b1).toLoadRect (harg3.unread x1))
        (View.readAt (Elt Ideal) arg6.view (Rect.unit (s := S1x512x1024) ![0, s.val * 256, i * 128] S1x256x128.size b4).toLoadRect (harg6.unread x4))
        (View.readAt (Elt Ideal) arg14.view (Rect.unit (s := S128x128) ![0, 0] S128x128.size b12).toLoadRect (harg14.unread x12))
        (View.readAt (Elt Ideal) arg11.view (Rect.unit (s := S1x1536) ![0, i * 128] S1x128.size b9).toLoadRect (harg11.unread x9))
        (View.readAt (Elt Ideal) arg12.view (Rect.unit (s := S1x1536) ![0, i * 128] S1x128.size b10).toLoadRect (harg12.unread x10)) y
      = bufferRows x0 x1 x2 x3 x4 x5 x7 x9 x10 s ((Rect.unit (s := S256x2048) ![0, i * 128] S256x128.size b16).emb y) := by
  obtain ⟨r, j, rfl⟩ : ∃ (r : Fin 256) (j : Fin 128), y = ix2 r j := ⟨y 0, y 1, eq_ix2 y⟩
  rw [emb_buffer (i * 128) b16 (by omega) r j]
  refine (normTile_row i (by omega) (O := fun k => x0 (ix3 0 ⟨s.val * 256 + r.val, by omega⟩ k))
    (G := fun k => x1 (ix3 0 ⟨s.val * 256 + r.val, by omega⟩ k)) (B := fun k => x2 (ix3 0 ⟨s.val * 256 + r.val, by omega⟩ k))
    (LG := fun k => x9 (ix2 0 k)) (LB := fun k => x10 (ix2 0 k)) (Z := gateRow x4 x5 ⟨s.val * 256 + r.val, by omega⟩)
    ?_ ?_ ?_ ?_ ?_ ?_ ?_ j).trans ?_
  · exact fun l j => (load2 harg14 x12 0 0 _ l j l j (by omega) (by omega)).trans (he l j)
  · exact fun l => load3 harg2 x0 _ _ _ r l _ _ rfl rfl
  · exact fun l => load3 harg3 x1 _ _ _ r l _ _ rfl rfl
  · exact fun l => load3 harg4 x2 _ _ _ r l _ _ rfl rfl
  · exact fun l => load2 harg11 x9 _ _ _ 0 l _ _ rfl rfl
  · exact fun l => load2 harg12 x10 _ _ _ 0 l _ _ rfl rfl
  · intro l
    unfold gateRow
    rw [dif_pos (show i * 128 + l.val < 1024 by omega)]
    exact load3 harg6 x4 _ _ _ r l _ _ rfl rfl
  · exact (gated_norm (i * 128 + j.val) (by omega)).symm

/-- A normalized tile among the last four. -/
theorem tile_high (s : Fin 2) (i : ℕ) (hi : i < 4) (he : ∀ l j : Fin 128, x12 (ix2 l j) = if l.val / 64 = j.val / 64 then (1 : EReal) else 0)
    {b0 b1 b2 b4 b9 b10 b12 b16} (y : (Rect.unit (s := S256x2048) ![0, (8 + i) * 128] S256x128.size b16).shape.Idx) :
    normTile (View.readAt (Elt Ideal) arg2.view (Rect.unit (s := S1x512x1536) ![0, s.val * 256, (8 + i) * 128] S1x256x128.size b0).toLoadRect (harg2.unread x0))
        (View.readAt (Elt Ideal) arg4.view (Rect.unit (s := S1x512x1536) ![0, s.val * 256, (8 + i) * 128] S1x256x128.size b2).toLoadRect (harg4.unread x2))
        (View.readAt (Elt Ideal) arg3.view (Rect.unit (s := S1x512x1536) ![0, s.val * 256, (8 + i) * 128] S1x256x128.size b1).toLoadRect (harg3.unread x1))
        (View.readAt (Elt Ideal) arg7.view (Rect.unit (s := S1x512x1024) ![0, s.val * 256, i * 128] S1x256x128.size b4).toLoadRect (harg7.unread x5))
        (View.readAt (Elt Ideal) arg14.view (Rect.unit (s := S128x128) ![0, 0] S128x128.size b12).toLoadRect (harg14.unread x12))
        (View.readAt (Elt Ideal) arg11.view (Rect.unit (s := S1x1536) ![0, (8 + i) * 128] S1x128.size b9).toLoadRect (harg11.unread x9))
        (View.readAt (Elt Ideal) arg12.view (Rect.unit (s := S1x1536) ![0, (8 + i) * 128] S1x128.size b10).toLoadRect (harg12.unread x10)) y
      = bufferRows x0 x1 x2 x3 x4 x5 x7 x9 x10 s ((Rect.unit (s := S256x2048) ![0, (8 + i) * 128] S256x128.size b16).emb y) := by
  obtain ⟨r, j, rfl⟩ : ∃ (r : Fin 256) (j : Fin 128), y = ix2 r j := ⟨y 0, y 1, eq_ix2 y⟩
  rw [emb_buffer ((8 + i) * 128) b16 (by omega) r j]
  refine (normTile_row (8 + i) (by omega) (O := fun k => x0 (ix3 0 ⟨s.val * 256 + r.val, by omega⟩ k))
    (G := fun k => x1 (ix3 0 ⟨s.val * 256 + r.val, by omega⟩ k)) (B := fun k => x2 (ix3 0 ⟨s.val * 256 + r.val, by omega⟩ k))
    (LG := fun k => x9 (ix2 0 k)) (LB := fun k => x10 (ix2 0 k)) (Z := gateRow x4 x5 ⟨s.val * 256 + r.val, by omega⟩)
    ?_ ?_ ?_ ?_ ?_ ?_ ?_ j).trans ?_
  · exact fun l j => (load2 harg14 x12 0 0 _ l j l j (by omega) (by omega)).trans (he l j)
  · exact fun l => load3 harg2 x0 _ _ _ r l _ _ rfl rfl
  · exact fun l => load3 harg3 x1 _ _ _ r l _ _ rfl rfl
  · exact fun l => load3 harg4 x2 _ _ _ r l _ _ rfl rfl
  · exact fun l => load2 harg11 x9 _ _ _ 0 l _ _ rfl rfl
  · exact fun l => load2 harg12 x10 _ _ _ 0 l _ _ rfl rfl
  · intro l
    unfold gateRow
    rw [dif_neg (show ¬ ((8 + i) * 128 + l.val < 1024) by omega)]
    exact load3 harg7 x5 _ _ _ r l _ _ rfl (by show (8 + i) * 128 + l.val - 1024 = i * 128 + l.val; omega)
  · exact (gated_norm ((8 + i) * 128 + j.val) (by omega)).symm

/-- A head of the attention. -/
theorem tile_head (s : Fin 2) (n : Fin 4) {b3 b7 b7' b5 b16}
    (y : (Rect.unit (s := S256x2048) ![0, 1536 + n.val * 128] S256x128.size b16).shape.Idx) :
    headTile (View.readAt (Elt Ideal) arg5.view (Rect.unit (s := S1x512x512) ![0, s.val * 256, n.val * 128] S1x256x128.size b3).toLoadRect (harg5.unread x3))
        (View.readAt (Elt Ideal) arg9.view (Rect.unit (s := S1x256x1024) ![0, 0, n.val * 128] S1x256x128.size b7).toLoadRect (harg9.unread x7))
        (View.readAt (Elt Ideal) arg9.view (Rect.unit (s := S1x256x1024) ![0, 0, 512 + n.val * 128] S1x256x128.size b7').toLoadRect (harg9.unread x7))
        (View.readAt (Elt Ideal) arg7.view (Rect.unit (s := S1x512x1024) ![0, s.val * 256, 512 + n.val * 128] S1x256x128.size b5).toLoadRect (harg7.unread x5)) y
      = bufferRows x0 x1 x2 x3 x4 x5 x7 x9 x10 s ((Rect.unit (s := S256x2048) ![0, 1536 + n.val * 128] S256x128.size b16).emb y) := by
  obtain ⟨r, j, rfl⟩ : ∃ (r : Fin 256) (j : Fin 128), y = ix2 r j := ⟨y 0, y 1, eq_ix2 y⟩
  rw [emb_buffer (1536 + n.val * 128) b16 (by omega) r j]
  refine (headTile_row n (Q := fun k => x3 (ix3 0 ⟨s.val * 256 + r.val, by omega⟩ k)) (K := fun m k => x7 (ix3 0 m ⟨k.val, by omega⟩))
    (V := fun m k => x7 (ix3 0 m ⟨512 + k.val, by omega⟩)) (Z := gateRow x4 x5 ⟨s.val * 256 + r.val, by omega⟩)
    ?_ ?_ ?_ ?_ j).trans ?_
  · exact fun l => load3 harg5 x3 _ _ _ r l _ _ rfl rfl
  · exact fun m l => load3 harg9 x7 _ _ _ m l _ _ (by omega) rfl
  · exact fun m l => load3 harg9 x7 _ _ _ m l _ _ (by omega) (by show 512 + (n.val * 128 + l.val) = _; omega)
  · intro l
    unfold gateRow
    rw [dif_neg (show ¬ (1536 + n.val * 128 + l.val < 1024) by omega)]
    exact load3 harg7 x5 _ _ _ r l _ _ rfl (by show 1536 + n.val * 128 + l.val - 1024 = _; omega)
  · exact (gated_head n j).symm

/-- What the first row buffer's stores leave. -/
theorem first_pieces (he : ∀ l j : Fin 128, x12 (ix2 l j) = if l.val / 64 = j.val / 64 then (1 : EReal) else 0) :
    ∀ p ∈ kernelRun0_A.sl.HS0_16 (F := Ideal) c arg2 harg2 arg3 harg3 arg4 harg4 arg5 harg5 arg6 harg6 arg7 harg7 arg9 harg9
      arg11 harg11 arg12 harg12 arg14 harg14 x0 x1 x2 x3 x4 x5 x7 x9 x10 x12,
      ∀ y, p.2 y = bufferRows x0 x1 x2 x3 x4 x5 x7 x9 x10 0 (p.1.emb y) := by
  unfold kernelRun0_A.sl.HS0_16
  simp only [List.forall_mem_cons]
  refine ⟨?_, ?_, ?_, ?_, ?_, ?_, ?_, ?_, ?_, ?_, ?_, ?_, ?_, ?_, ?_, ?_, fun _ h => absurd h List.not_mem_nil⟩
  · exact fun y => tile_head arg5 harg5 arg7 harg7 arg9 harg9 x0 x1 x2 x3 x4 x5 x7 x9 x10 0 3 y
  · exact fun y => tile_head arg5 harg5 arg7 harg7 arg9 harg9 x0 x1 x2 x3 x4 x5 x7 x9 x10 0 2 y
  · exact fun y => tile_head arg5 harg5 arg7 harg7 arg9 harg9 x0 x1 x2 x3 x4 x5 x7 x9 x10 0 1 y
  · exact fun y => tile_head arg5 harg5 arg7 harg7 arg9 harg9 x0 x1 x2 x3 x4 x5 x7 x9 x10 0 0 y
  · exact fun y => tile_high arg2 harg2 arg3 harg3 arg4 harg4 arg7 harg7 arg11 harg11 arg12 harg12 arg14 harg14 x0 x1 x2 x3 x4 x5 x7 x9 x10 0 3 (by omega) he y
  · exact fun y => tile_high arg2 harg2 arg3 harg3 arg4 harg4 arg7 harg7 arg11 harg11 arg12 harg12 arg14 harg14 x0 x1 x2 x3 x4 x5 x7 x9 x10 0 2 (by omega) he y
  · exact fun y => tile_high arg2 harg2 arg3 harg3 arg4 harg4 arg7 harg7 arg11 harg11 arg12 harg12 arg14 harg14 x0 x1 x2 x3 x4 x5 x7 x9 x10 0 1 (by omega) he y
  · exact fun y => tile_high arg2 harg2 arg3 harg3 arg4 harg4 arg7 harg7 arg11 harg11 arg12 harg12 arg14 harg14 x0 x1 x2 x3 x4 x5 x7 x9 x10 0 0 (by omega) he y
  · exact fun y => tile_low arg2 harg2 arg3 harg3 arg4 harg4 arg6 harg6 arg11 harg11 arg12 harg12 arg14 harg14 x0 x1 x2 x3 x4 x5 x7 x9 x10 0 7 (by omega) he y
  · exact fun y => tile_low arg2 harg2 arg3 harg3 arg4 harg4 arg6 harg6 arg11 harg11 arg12 harg12 arg14 harg14 x0 x1 x2 x3 x4 x5 x7 x9 x10 0 6 (by omega) he y
  · exact fun y => tile_low arg2 harg2 arg3 harg3 arg4 harg4 arg6 harg6 arg11 harg11 arg12 harg12 arg14 harg14 x0 x1 x2 x3 x4 x5 x7 x9 x10 0 5 (by omega) he y
  · exact fun y => tile_low arg2 harg2 arg3 harg3 arg4 harg4 arg6 harg6 arg11 harg11 arg12 harg12 arg14 harg14 x0 x1 x2 x3 x4 x5 x7 x9 x10 0 4 (by omega) he y
  · exact fun y => tile_low arg2 harg2 arg3 harg3 arg4 harg4 arg6 harg6 arg11 harg11 arg12 harg12 arg14 harg14 x0 x1 x2 x3 x4 x5 x7 x9 x10 0 3 (by omega) he y
  · exact fun y => tile_low arg2 harg2 arg3 harg3 arg4 harg4 arg6 harg6 arg11 harg11 arg12 harg12 arg14 harg14 x0 x1 x2 x3 x4 x5 x7 x9 x10 0 2 (by omega) he y
  · exact fun y => tile_low arg2 harg2 arg3 harg3 arg4 harg4 arg6 harg6 arg11 harg11 arg12 harg12 arg14 harg14 x0 x1 x2 x3 x4 x5 x7 x9 x10 0 1 (by omega) he y
  · exact fun y => tile_low arg2 harg2 arg3 harg3 arg4 harg4 arg6 harg6 arg11 harg11 arg12 harg12 arg14 harg14 x0 x1 x2 x3 x4 x5 x7 x9 x10 0 0 (by omega) he y

/-- What the second row buffer's stores leave. -/
theorem second_pieces (he : ∀ l j : Fin 128, x12 (ix2 l j) = if l.val / 64 = j.val / 64 then (1 : EReal) else 0) :
    ∀ p ∈ kernelRun0_A.sl.HS1_16 (F := Ideal) c arg2 harg2 arg3 harg3 arg4 harg4 arg5 harg5 arg6 harg6 arg7 harg7 arg9 harg9
      arg11 harg11 arg12 harg12 arg14 harg14 x0 x1 x2 x3 x4 x5 x7 x9 x10 x12,
      ∀ y, p.2 y = bufferRows x0 x1 x2 x3 x4 x5 x7 x9 x10 1 (p.1.emb y) := by
  unfold kernelRun0_A.sl.HS1_16
  simp only [List.forall_mem_cons]
  refine ⟨?_, ?_, ?_, ?_, ?_, ?_, ?_, ?_, ?_, ?_, ?_, ?_, ?_, ?_, ?_, ?_, fun _ h => absurd h List.not_mem_nil⟩
  · exact fun y => tile_head arg5 harg5 arg7 harg7 arg9 harg9 x0 x1 x2 x3 x4 x5 x7 x9 x10 1 3 y
  · exact fun y => tile_head arg5 harg5 arg7 harg7 arg9 harg9 x0 x1 x2 x3 x4 x5 x7 x9 x10 1 2 y
  · exact fun y => tile_head arg5 harg5 arg7 harg7 arg9 harg9 x0 x1 x2 x3 x4 x5 x7 x9 x10 1 1 y
  · exact fun y => tile_head arg5 harg5 arg7 harg7 arg9 harg9 x0 x1 x2 x3 x4 x5 x7 x9 x10 1 0 y
  · exact fun y => tile_high arg2 harg2 arg3 harg3 arg4 harg4 arg7 harg7 arg11 harg11 arg12 harg12 arg14 harg14 x0 x1 x2 x3 x4 x5 x7 x9 x10 1 3 (by omega) he y
  · exact fun y => tile_high arg2 harg2 arg3 harg3 arg4 harg4 arg7 harg7 arg11 harg11 arg12 harg12 arg14 harg14 x0 x1 x2 x3 x4 x5 x7 x9 x10 1 2 (by omega) he y
  · exact fun y => tile_high arg2 harg2 arg3 harg3 arg4 harg4 arg7 harg7 arg11 harg11 arg12 harg12 arg14 harg14 x0 x1 x2 x3 x4 x5 x7 x9 x10 1 1 (by omega) he y
  · exact fun y => tile_high arg2 harg2 arg3 harg3 arg4 harg4 arg7 harg7 arg11 harg11 arg12 harg12 arg14 harg14 x0 x1 x2 x3 x4 x5 x7 x9 x10 1 0 (by omega) he y
  · exact fun y => tile_low arg2 harg2 arg3 harg3 arg4 harg4 arg6 harg6 arg11 harg11 arg12 harg12 arg14 harg14 x0 x1 x2 x3 x4 x5 x7 x9 x10 1 7 (by omega) he y
  · exact fun y => tile_low arg2 harg2 arg3 harg3 arg4 harg4 arg6 harg6 arg11 harg11 arg12 harg12 arg14 harg14 x0 x1 x2 x3 x4 x5 x7 x9 x10 1 6 (by omega) he y
  · exact fun y => tile_low arg2 harg2 arg3 harg3 arg4 harg4 arg6 harg6 arg11 harg11 arg12 harg12 arg14 harg14 x0 x1 x2 x3 x4 x5 x7 x9 x10 1 5 (by omega) he y
  · exact fun y => tile_low arg2 harg2 arg3 harg3 arg4 harg4 arg6 harg6 arg11 harg11 arg12 harg12 arg14 harg14 x0 x1 x2 x3 x4 x5 x7 x9 x10 1 4 (by omega) he y
  · exact fun y => tile_low arg2 harg2 arg3 harg3 arg4 harg4 arg6 harg6 arg11 harg11 arg12 harg12 arg14 harg14 x0 x1 x2 x3 x4 x5 x7 x9 x10 1 3 (by omega) he y
  · exact fun y => tile_low arg2 harg2 arg3 harg3 arg4 harg4 arg6 harg6 arg11 harg11 arg12 harg12 arg14 harg14 x0 x1 x2 x3 x4 x5 x7 x9 x10 1 2 (by omega) he y
  · exact fun y => tile_low arg2 harg2 arg3 harg3 arg4 harg4 arg6 harg6 arg11 harg11 arg12 harg12 arg14 harg14 x0 x1 x2 x3 x4 x5 x7 x9 x10 1 1 (by omega) he y
  · exact fun y => tile_low arg2 harg2 arg3 harg3 arg4 harg4 arg6 harg6 arg11 harg11 arg12 harg12 arg14 harg14 x0 x1 x2 x3 x4 x5 x7 x9 x10 1 0 (by omega) he y

theorem first_cover (i : S256x2048.Idx) :
    ∃ p ∈ kernelRun0_A.sl.HS0_16 (F := Ideal) c arg2 harg2 arg3 harg3 arg4 harg4 arg5 harg5 arg6 harg6 arg7 harg7 arg9 harg9
      arg11 harg11 arg12 harg12 arg14 harg14 x0 x1 x2 x3 x4 x5 x7 x9 x10 x12, i ∈ p.1.set := by
  have h0 : (i 0).val < 256 := (i 0).isLt
  have h1 : (i 1).val < 2048 := (i 1).isLt
  unfold kernelRun0_A.sl.HS0_16
  simp only [List.exists_mem_cons_iff, Rect.mem_set_unit, Fin.forall_fin_two]
  simp [S256x128]
  omega

theorem second_cover (i : S256x2048.Idx) :
    ∃ p ∈ kernelRun0_A.sl.HS1_16 (F := Ideal) c arg2 harg2 arg3 harg3 arg4 harg4 arg5 harg5 arg6 harg6 arg7 harg7 arg9 harg9
      arg11 harg11 arg12 harg12 arg14 harg14 x0 x1 x2 x3 x4 x5 x7 x9 x10 x12, i ∈ p.1.set := by
  have h0 : (i 0).val < 256 := (i 0).isLt
  have h1 : (i 1).val < 2048 := (i 1).isLt
  unfold kernelRun0_A.sl.HS1_16
  simp only [List.exists_mem_cons_iff, Rect.mem_set_unit, Fin.forall_fin_two]
  simp [S256x128]
  omega

end

end Cert.KernelIdeal.Row
-- ==== Proof.OutKernel.lean ====
/- What one grid point of the kernel's last stage writes: each row of its block is the plain row function of the
   point's input rows. -/
module

public import proofs.«01_k».proof.Proof.OutWords

@[expose] public section

set_option maxRecDepth 16384

noncomputable section

namespace Cert.KernelIdeal.Row

open Cert.KernelIdeal Cert.KernelIdeal.Gen Cert.Layer
open Idealize.ShloMosaic Idealize.SL.Sem

/-- The latest stores decide: an index they cover reads them whatever was stored before. -/
theorem canon_latest {S : Shape} {el : EltTy} (G : S.Idx → Elt Ideal el) (L M : List (View.Piece (Elt Ideal) S el))
    (hL : ∀ p ∈ L, ∀ x, p.2 x = G (p.1.emb x)) (i : S.Idx) (hi : ∃ p ∈ L, i ∈ p.1.set) :
    View.canon (L ++ M) i = G i := by
  induction L with
  | nil => obtain ⟨p, hp, -⟩ := hi; exact absurd hp List.not_mem_nil
  | cons p L ih =>
    by_cases h : i ∈ p.1.set
    · obtain ⟨x, rfl⟩ := p.1.exists_idx_of_mem h
      rw [List.cons_append]
      exact (View.canon_cons_emb p.1 p.2 _ x).trans (hL p List.mem_cons_self x)
    · rw [List.cons_append, View.canon_cons_of_not_mem p _ h]
      refine ih (fun q hq => hL q (List.mem_cons_of_mem _ hq)) ?_
      obtain ⟨q, hq, hiq⟩ := hi
      rcases List.mem_cons.mp hq with rfl | hq'
      · exact absurd hiq h
      · exact ⟨q, hq', hiq⟩

section

variable (c : Dev nD)
variable (arg2 : Memref sig .tc .vmem S1x512x1536 .bf16) (harg2 : arg2.IsWhole) (arg3 : Memref sig .tc .vmem S1x512x1536 .bf16)
  (harg3 : arg3.IsWhole) (arg4 : Memref sig .tc .vmem S1x512x1536 .bf16) (harg4 : arg4.IsWhole)
  (arg5 : Memref sig .tc .vmem S1x512x512 .bf16) (harg5 : arg5.IsWhole) (arg6 : Memref sig .tc .vmem S1x512x1024 .bf16)
  (harg6 : arg6.IsWhole) (arg7 : Memref sig .tc .vmem S1x512x1024 .bf16) (harg7 : arg7.IsWhole)
  (arg8 : Memref sig .tc .vmem S1x512x1024 .f32) (harg8 : arg8.IsWhole) (arg9 : Memref sig .tc .vmem S1x256x1024 .bf16)
  (harg9 : arg9.IsWhole) (arg10 : Memref sig .tc .vmem S2048x1024 .bf16) (harg10 : arg10.IsWhole)
  (arg11 : Memref sig .tc .vmem S1x1536 .f32) (harg11 : arg11.IsWhole) (arg12 : Memref sig .tc .vmem S1x1536 .f32)
  (harg12 : arg12.IsWhole) (arg13 : Memref sig .tc .vmem S1x1024 .f32) (harg13 : arg13.IsWhole)
  (arg14 : Memref sig .tc .vmem S128x128 .bf16) (harg14 : arg14.IsWhole)
  (arg15 : Memref sig .tc .vmem S1x512x1024 .f32) (arg16 arg17 : Memref sig .tc .vmem S256x2048 .bf16)
variable (x0 x1 x2 : Vec Ideal S1x512x1536 .bf16) (x3 : Vec Ideal S1x512x512 .bf16) (x4 x5 : Vec Ideal S1x512x1024 .bf16)
  (x6 : Vec Ideal S1x512x1024 .f32) (x7 : Vec Ideal S1x256x1024 .bf16) (x8 : Vec Ideal S2048x1024 .bf16)
  (x9 x10 : Vec Ideal S1x1536 .f32) (x11 : Vec Ideal S1x1024 .f32) (x12 : Vec Ideal S128x128 .bf16)

/-- Row `r` of a grid point's block with its projection added. -/
def projRow (r : Fin 512) : Fin 1024 → EReal :=
  projected (fun j => x6 (ix3 0 r j)) (blockRow x0 x1 x2 x3 x4 x5 x7 x9 x10 r) (fun k j => x8 (ix2 k j))

/-- The rows with the projection, as the array the result's buffer holds before the norm. -/
def projRows (i : S1x512x1024.Idx) : EReal := projRow x0 x1 x2 x3 x4 x5 x6 x7 x8 x9 x10 (i 1) (i 2)

theorem whole_buffer (inb) (r : Fin 256) (k : Fin 2048) :
    (Rect.unit (s := S256x2048) ![0, 0] S256x2048.size inb).idx (ix2 r k) = ix2 r k := by
  funext a
  apply Fin.ext
  rw [Rect.idx_unit_val]
  fin_cases a
  · exact Nat.zero_add _
  · exact Nat.zero_add _

variable {x12}

theorem first_buffer (he : ∀ l j : Fin 128, x12 (ix2 l j) = if l.val / 64 = j.val / 64 then (1 : EReal) else 0)
    (r : Fin 256) (k : Fin 2048) :
    kernelRun0_A.sl.v782 (F := Ideal) c arg2 harg2 arg3 harg3 arg4 harg4 arg5 harg5 arg6 harg6 arg7 harg7 arg9 harg9
      arg11 harg11 arg12 harg12 arg14 harg14 arg16 x0 x1 x2 x3 x4 x5 x7 x9 x10 x12 (ix2 r k)
      = blockRow x0 x1 x2 x3 x4 x5 x7 x9 x10 ⟨(0 : Fin 2).val * 256 + r.val, by simp; omega⟩ k := by
  unfold kernelRun0_A.sl.v782
  rw [View.readCov_eq_canon']
  show View.canon _ ((Rect.unit (s := S256x2048) ![0, 0] S256x2048.size _).idx (ix2 r k)) = _
  rw [whole_buffer, View.canon_apply_of_pieces (bufferRows x0 x1 x2 x3 x4 x5 x7 x9 x10 0) _
    (first_pieces c arg2 harg2 arg3 harg3 arg4 harg4 arg5 harg5 arg6 harg6 arg7 harg7 arg9 harg9 arg11 harg11 arg12 harg12
      arg14 harg14 x0 x1 x2 x3 x4 x5 x7 x9 x10 he) _
    (first_cover c arg2 harg2 arg3 harg3 arg4 harg4 arg5 harg5 arg6 harg6 arg7 harg7 arg9 harg9 arg11 harg11 arg12 harg12
      arg14 harg14 x0 x1 x2 x3 x4 x5 x7 x9 x10 _)]
  rfl

theorem second_buffer (he : ∀ l j : Fin 128, x12 (ix2 l j) = if l.val / 64 = j.val / 64 then (1 : EReal) else 0)
    (r : Fin 256) (k : Fin 2048) :
    kernelRun0_A.sl.v1621 (F := Ideal) c arg2 harg2 arg3 harg3 arg4 harg4 arg5 harg5 arg6 harg6 arg7 harg7 arg9 harg9
      arg11 harg11 arg12 harg12 arg14 harg14 arg17 x0 x1 x2 x3 x4 x5 x7 x9 x10 x12 (ix2 r k)
      = blockRow x0 x1 x2 x3 x4 x5 x7 x9 x10 ⟨(1 : Fin 2).val * 256 + r.val, by simp; omega⟩ k := by
  unfold kernelRun0_A.sl.v1621
  rw [View.readCov_eq_canon']
  show View.canon _ ((Rect.unit (s := S256x2048) ![0, 0] S256x2048.size _).idx (ix2 r k)) = _
  rw [whole_buffer, View.canon_apply_of_pieces (bufferRows x0 x1 x2 x3 x4 x5 x7 x9 x10 1) _
    (second_pieces c arg2 harg2 arg3 harg3 arg4 harg4 arg5 harg5 arg6 harg6 arg7 harg7 arg9 harg9 arg11 harg11 arg12 harg12
      arg14 harg14 x0 x1 x2 x3 x4 x5 x7 x9 x10 he) _
    (second_cover c arg2 harg2 arg3 harg3 arg4 harg4 arg5 harg5 arg6 harg6 arg7 harg7 arg9 harg9 arg11 harg11 arg12 harg12
      arg14 harg14 x0 x1 x2 x3 x4 x5 x7 x9 x10 _)]
  rfl

/-- A tile of the projection, where row block `s` stores it. -/
theorem tile_proj (s : Fin 2) (i : ℕ) (hi : i < 4) {Y : Vec Ideal S256x2048 .bf16}
    (hY : ∀ (r : Fin 256) (k : Fin 2048), Y (ix2 r k) = blockRow x0 x1 x2 x3 x4 x5 x7 x9 x10 ⟨s.val * 256 + r.val, by omega⟩ k)
    {b8 b10 b15} (y : (Rect.unit (s := S1x512x1024) ![0, s.val * 256, i * 256] S1x256x256.size b15).shape.Idx) :
    projTile (View.readAt (Elt Ideal) arg8.view (Rect.unit (s := S1x512x1024) ![0, s.val * 256, i * 256] S1x256x256.size b8).toLoadRect (harg8.unread x6))
        Y (View.readAt (Elt Ideal) arg10.view (Rect.unit (s := S2048x1024) ![0, i * 256] S2048x256.size b10).toLoadRect (harg10.unread x8)) y
      = projRows x0 x1 x2 x3 x4 x5 x6 x7 x8 x9 x10 ((Rect.unit (s := S1x512x1024) ![0, s.val * 256, i * 256] S1x256x256.size b15).emb y) := by
  obtain ⟨z, r, j, rfl⟩ : ∃ (z : Fin 1) (r j : Fin 256), y = ix3 z r j := ⟨y 0, y 1, y 2, eq_ix3 y⟩
  obtain rfl := Subsingleton.elim z 0
  have hemb : (Rect.unit (s := S1x512x1024) ![0, s.val * 256, i * 256] S1x256x256.size b15).emb (ix3 0 r j)
      = ix3 0 (⟨s.val * 256 + r.val, by omega⟩ : Fin 512) (⟨i * 256 + j.val, by omega⟩ : Fin 1024) := by
    funext a
    apply Fin.ext
    rw [ValueKit.rect_emb_unit_val]
    fin_cases a <;> rfl
  rw [hemb]
  exact projTile_row i hi (X := fun j => x6 (ix3 0 ⟨s.val * 256 + r.val, by omega⟩ j))
    (Y := blockRow x0 x1 x2 x3 x4 x5 x7 x9 x10 ⟨s.val * 256 + r.val, by omega⟩) (W := fun k j => x8 (ix2 k j))
    (fun l => load3 harg8 x6 _ _ _ r l _ _ rfl rfl) (hY r) (fun k l => load2 harg10 x8 _ _ _ k l _ _ (Nat.zero_add _).symm rfl) j

theorem first_proj (he : ∀ l j : Fin 128, x12 (ix2 l j) = if l.val / 64 = j.val / 64 then (1 : EReal) else 0) :
    ∀ p ∈ kernelRun0_A.sl.H13_4 (F := Ideal) c arg2 harg2 arg3 harg3 arg4 harg4 arg5 harg5 arg6 harg6 arg7 harg7 arg8 harg8 arg9 harg9
      arg10 harg10 arg11 harg11 arg12 harg12 arg14 harg14 arg16 x0 x1 x2 x3 x4 x5 x6 x7 x8 x9 x10 x12,
      ∀ y, p.2 y = projRows x0 x1 x2 x3 x4 x5 x6 x7 x8 x9 x10 (p.1.emb y) := by
  have hY := first_buffer c arg2 harg2 arg3 harg3 arg4 harg4 arg5 harg5 arg6 harg6 arg7 harg7 arg9 harg9 arg11 harg11 arg12 harg12
    arg14 harg14 arg16 x0 x1 x2 x3 x4 x5 x7 x9 x10 he
  unfold kernelRun0_A.sl.H13_4
  simp only [List.forall_mem_cons]
  refine ⟨?_, ?_, ?_, ?_, fun _ h => absurd h List.not_mem_nil⟩
  · exact fun y => tile_proj arg8 harg8 arg10 harg10 x0 x1 x2 x3 x4 x5 x6 x7 x8 x9 x10 0 3 (by omega) hY y
  · exact fun y => tile_proj arg8 harg8 arg10 harg10 x0 x1 x2 x3 x4 x5 x6 x7 x8 x9 x10 0 2 (by omega) hY y
  · exact fun y => tile_proj arg8 harg8 arg10 harg10 x0 x1 x2 x3 x4 x5 x6 x7 x8 x9 x10 0 1 (by omega) hY y
  · exact fun y => tile_proj arg8 harg8 arg10 harg10 x0 x1 x2 x3 x4 x5 x6 x7 x8 x9 x10 0 0 (by omega) hY y

theorem rows_idx (o : ℕ) (ho : o + 256 ≤ 512) (inb) (r : Fin 256) (j : Fin 1024) :
    (Rect.unit (s := S1x512x1024) ![0, o, 0] S1x256x1024.size inb).idx (ix3 0 r j)
      = ix3 0 (⟨o + r.val, by omega⟩ : Fin 512) j := by
  funext a
  apply Fin.ext
  rw [Rect.idx_unit_val]
  fin_cases a
  · rfl
  · rfl
  · exact Nat.zero_add _

/-- The first row block as the norm reads it. -/
theorem first_read (he : ∀ l j : Fin 128, x12 (ix2 l j) = if l.val / 64 = j.val / 64 then (1 : EReal) else 0)
    (r : Fin 256) (j : Fin 1024) :
    kernelRun0_A.sl.v1456 (F := Ideal) c arg2 harg2 arg3 harg3 arg4 harg4 arg5 harg5 arg6 harg6 arg7 harg7 arg8 harg8 arg9 harg9
      arg10 harg10 arg11 harg11 arg12 harg12 arg14 harg14 arg15 arg16 x0 x1 x2 x3 x4 x5 x6 x7 x8 x9 x10 x12 (ix3 (0 : Fin 1) r j)
      = projRow x0 x1 x2 x3 x4 x5 x6 x7 x8 x9 x10 ⟨0 + r.val, by omega⟩ j := by
  unfold kernelRun0_A.sl.v1456
  rw [View.readCov_eq_canon']
  show View.canon _ ((Rect.unit (s := S1x512x1024) ![0, 0, 0] S1x256x1024.size _).idx (ix3 (0 : Fin 1) r j)) = _
  rw [rows_idx 0 (by omega), View.canon_apply_of_pieces (projRows x0 x1 x2 x3 x4 x5 x6 x7 x8 x9 x10) _
    (first_proj c arg2 harg2 arg3 harg3 arg4 harg4 arg5 harg5 arg6 harg6 arg7 harg7 arg8 harg8 arg9 harg9 arg10 harg10 arg11 harg11
      arg12 harg12 arg14 harg14 arg16 x0 x1 x2 x3 x4 x5 x6 x7 x8 x9 x10 he) _ ?_]
  · rfl
  · unfold kernelRun0_A.sl.H13_4
    simp only [List.exists_mem_cons_iff, Rect.mem_set_unit, Fin.forall_fin_succ]
    simp [S1x256x256]
    omega

/-- The second row block as the norm reads it: its four projection tiles are the latest stores there. -/
theorem second_read (he : ∀ l j : Fin 128, x12 (ix2 l j) = if l.val / 64 = j.val / 64 then (1 : EReal) else 0)
    (r : Fin 256) (j : Fin 1024) :
    kernelRun0_A.sl.v1659 (F := Ideal) c arg2 harg2 arg3 harg3 arg4 harg4 arg5 harg5 arg6 harg6 arg7 harg7 arg8 harg8 arg9 harg9
      arg10 harg10 arg11 harg11 arg12 harg12 arg13 harg13 arg14 harg14 arg15 arg16 arg17 x0 x1 x2 x3 x4 x5 x6 x7 x8 x9 x10 x11 x12 (ix3 (0 : Fin 1) r j)
      = projRow x0 x1 x2 x3 x4 x5 x6 x7 x8 x9 x10 ⟨256 + r.val, by omega⟩ j := by
  have hY := second_buffer c arg2 harg2 arg3 harg3 arg4 harg4 arg5 harg5 arg6 harg6 arg7 harg7 arg9 harg9 arg11 harg11 arg12 harg12
    arg14 harg14 arg17 x0 x1 x2 x3 x4 x5 x7 x9 x10 he
  unfold kernelRun0_A.sl.v1659
  rw [View.readCov_eq_canon']
  show View.canon _ ((Rect.unit (s := S1x512x1024) ![0, 256, 0] S1x256x1024.size _).idx (ix3 (0 : Fin 1) r j)) = _
  rw [rows_idx 256 (by omega)]
  unfold kernelRun0_A.sl.H13_9
  refine (canon_latest (projRows x0 x1 x2 x3 x4 x5 x6 x7 x8 x9 x10) [_, _, _, _] _ ?_ _ ?_).trans rfl
  · simp only [List.forall_mem_cons]
    refine ⟨?_, ?_, ?_, ?_, fun _ h => absurd h List.not_mem_nil⟩
    · exact fun y => tile_proj arg8 harg8 arg10 harg10 x0 x1 x2 x3 x4 x5 x6 x7 x8 x9 x10 1 3 (by omega) hY y
    · exact fun y => tile_proj arg8 harg8 arg10 harg10 x0 x1 x2 x3 x4 x5 x6 x7 x8 x9 x10 1 2 (by omega) hY y
    · exact fun y => tile_proj arg8 harg8 arg10 harg10 x0 x1 x2 x3 x4 x5 x6 x7 x8 x9 x10 1 1 (by omega) hY y
    · exact fun y => tile_proj arg8 harg8 arg10 harg10 x0 x1 x2 x3 x4 x5 x6 x7 x8 x9 x10 1 0 (by omega) hY y
  · simp only [List.exists_mem_cons_iff, Rect.mem_set_unit, Fin.forall_fin_succ]
    simp [S1x256x256]
    omega

variable (harg15 : arg15.IsWhole) (harg16 : arg16.IsWhole) (harg17 : arg17.IsWhole)

/-- Row `r`, lane `j` of what a grid point writes. -/
theorem block_row (i : grid0.Coords)
    (he : ∀ l j : Fin 128, x12 (ix2 l j) = if l.val / 64 = j.val / 64 then (1 : EReal) else 0)
    (r : Fin 512) (j : Fin 1024) :
    out0_A_13 (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      x0 x1 x2 x3 x4 x5 x6 x7 x8 x9 x10 x11 x12 (ix3 (0 : Fin 1) r j)
      = rmsNorm (projRow x0 x1 x2 x3 x4 x5 x6 x7 x8 x9 x10 r) (fun j => x11 (ix2 0 j)) j := by
  have h1 := first_read c arg2 harg2 arg3 harg3 arg4 harg4 arg5 harg5 arg6 harg6 arg7 harg7 arg8 harg8 arg9 harg9 arg10 harg10
    arg11 harg11 arg12 harg12 arg14 harg14 arg15 arg16 x0 x1 x2 x3 x4 x5 x6 x7 x8 x9 x10 he
  have h2 := second_read c arg2 harg2 arg3 harg3 arg4 harg4 arg5 harg5 arg6 harg6 arg7 harg7 arg8 harg8 arg9 harg9 arg10 harg10
    arg11 harg11 arg12 harg12 arg13 harg13 arg14 harg14 arg15 arg16 arg17 x0 x1 x2 x3 x4 x5 x6 x7 x8 x9 x10 x11 he
  unfold out0_A_13
  rw [View.read_writes_eq_canon _ _ _ (cover0_A_13 (F := Ideal) c i arg2 harg2 arg3 harg3 arg4 harg4 arg5 harg5 arg6 harg6 arg7 harg7
    arg8 harg8 arg9 harg9 arg10 harg10 arg11 harg11 arg12 harg12 arg13 harg13 arg14 harg14 arg15 harg15 arg16 harg16 arg17 harg17
    x0 x1 x2 x3 x4 x5 x6 x7 x8 x9 x10 x11 x12)]
  unfold kernelRun0_A
  dsimp only
  by_cases hr : r.val < 256
  · rw [View.canon_cons_of_not_mem]
    · unfold kernelRun0_A.sl.H13_9
      rw [View.canon_cons_of_not_mem, View.canon_cons_of_not_mem, View.canon_cons_of_not_mem, View.canon_cons_of_not_mem]
      · have hi : (ix3 (0 : Fin 1) r j : S1x512x1024.Idx)
            = (Rect.unit (s := S1x512x1024) ![0, 0, 0] S1x256x1024.size inb_S1x512x1024_S1x256x1024_0_0_0).emb
              (ix3 (0 : Fin 1) (⟨r.val, hr⟩ : Fin 256) j) := by
          refine Eq.trans ?_ (rows_idx 0 (by omega) _ _ _).symm
          exact congrArg (fun r => ix3 (0 : Fin 1) r j) (Fin.ext (Nat.zero_add _).symm)
        rw [hi, View.canon_cons_emb]
        refine (normRows_row (r := ⟨r.val, hr⟩) (X := projRow x0 x1 x2 x3 x4 x5 x6 x7 x8 x9 x10 r)
          (G := fun j => x11 (ix2 0 j)) (fun l => (h1 ⟨r.val, hr⟩ l).trans ?_)
          (fun l => load2 harg13 x11 _ _ _ 0 l _ _ rfl (Nat.zero_add _).symm) j)
        exact congrArg (fun r => projRow x0 x1 x2 x3 x4 x5 x6 x7 x8 x9 x10 r l) (Fin.ext (Nat.zero_add _))
      all_goals
        rw [Rect.mem_set_unit]
        intro h
        have h := (h 1).1
        simp at h
        omega
    · rw [Rect.mem_set_unit]
      intro h
      have h := (h 1).1
      simp at h
      omega
  · have hi : (ix3 (0 : Fin 1) r j : S1x512x1024.Idx)
        = (Rect.unit (s := S1x512x1024) ![0, 256, 0] S1x256x1024.size inb_S1x512x1024_S1x256x1024_0_256_0).emb
          (ix3 (0 : Fin 1) (⟨r.val - 256, by omega⟩ : Fin 256) j) := by
      refine Eq.trans ?_ (rows_idx 256 (by omega) _ _ _).symm
      exact congrArg (fun r => ix3 (0 : Fin 1) r j) (Fin.ext (by show r.val = 256 + (r.val - 256); omega))
    rw [hi, View.canon_cons_emb]
    refine (normRows_row (r := ⟨r.val - 256, by omega⟩) (X := projRow x0 x1 x2 x3 x4 x5 x6 x7 x8 x9 x10 r)
      (G := fun j => x11 (ix2 0 j)) (fun l => (h2 ⟨r.val - 256, by omega⟩ l).trans ?_)
      (fun l => load2 harg13 x11 _ _ _ 0 l _ _ rfl (Nat.zero_add _).symm) j)
    exact congrArg (fun r => projRow x0 x1 x2 x3 x4 x5 x6 x7 x8 x9 x10 r l) (Fin.ext (by show 256 + (r.val - 256) = r.val; omega))

end

end Cert.KernelIdeal.Row
-- ==== Proof.OutBlocks.lean ====
/- What a grid point of the kernel's last stage is handed: the arrays that the host code prepares, and each input
   window's block as entries of the argument arrays. -/
module

public import proofs.«01_k».proof.Proof.OutKernel
public import Idealize.ShloMosaic.Lib.Pipeline.ValueKit.Acc
public import Idealize.ShloMosaic.Lib.StableHlo.ReadAt

@[expose] public section

set_option maxRecDepth 16384

noncomputable section

namespace Cert.KernelIdeal.Row

open Cert.KernelIdeal Cert.KernelIdeal.Gen Idealize.ShloMosaic Idealize.ShloMosaic.TcCoe Idealize.SL.Sem

variable (m : (ℓ : Loc nD τ sig) → Buf (Elt Ideal) ℓ) (c : Dev nD)

/-! ## The arrays the host prepares -/

theorem host_w (k : Fin 2048) (j : Fin 1024) :
    (V m c main_v10 : FVec Ideal S2048x1024 .bf16) (ix2 k j) = (m (c.tc.loc main_arg6) : FVec Ideal S2x2048x1024 .f32) (ix3 1 k j) := by
  unfold V
  after_reads_at

theorem host_g (j : Fin 1536) :
    (V m c main_v13 : FVec Ideal S1x1536 .f32) (ix2 0 j) = (m (c.tc.loc main_arg7) : FVec Ideal S1x1536 .f32) (ix2 0 j) := by
  unfold V
  after_reads_at

theorem host_b (j : Fin 1536) :
    (V m c main_v14 : FVec Ideal S1x1536 .f32) (ix2 0 j) = (m (c.tc.loc main_arg8) : FVec Ideal S1x1536 .f32) (ix2 0 j) := by
  unfold V
  after_reads_at

theorem host_f (j : Fin 1024) :
    (V m c main_v15 : FVec Ideal S1x1024 .f32) (ix2 0 j) = (m (c.tc.loc main_arg9) : FVec Ideal S1024 .f32) (ix1 j) := by
  unfold V
  after_reads_at

/-- The host's floor division by 64, as a word, of a lane's number. -/
theorem lane_half : ∀ l : Fin 128,
    Scalar.select (IntOp.andi
        (IntOp.cmpi .ne (if BitVec.ofNat 32 l.val = 0 then (0 : BitVec 32) else if (BitVec.ofNat 32 l.val).msb = true then -1 else 1)
          (if (64#32 : BitVec 32) = 0 then (0 : BitVec 32) else if BitVec.msb (64#32 : BitVec 32) = true then -1 else 1))
        (IntOp.cmpi .ne (IntOp.remsi .host (BitVec.ofNat 32 l.val) (64#32)) 0#32))
      (IntOp.subi (IntOp.divsi .host (BitVec.ofNat 32 l.val) (64#32)) 1#32)
      (IntOp.divsi .host (BitVec.ofNat 32 l.val) (64#32)) = BitVec.ofNat 32 (l.val / 64) := by
  decide +kernel

theorem word_eq_iff : ∀ l j : Fin 128,
    IntOp.cmpi .eq (BitVec.ofNat 32 (l.val / 64)) (BitVec.ofNat 32 (j.val / 64)) = if l.val / 64 = j.val / 64 then 1#1 else 0#1 := by
  decide +kernel

/-- The mask that the host prepares: one where two lanes lie in one half, zero elsewhere. -/
theorem host_e (l j : Fin 128) :
    (V m c main_v7 : FVec Ideal S128x128 .bf16) (ix2 l j) = if l.val / 64 = j.val / 64 then (1 : EReal) else 0 := by
  unfold V
  after_reads_at
  refine (congrArg (FloatOps.uitofp (F := Ideal) FTy.bf16)
    (((congrArg₂ (IntOp.cmpi .eq) (lane_half l) (lane_half j))).trans (word_eq_iff l j))).trans ?_
  split
  · show (((1#1 : BitVec 1).toNat : ℝ) : EReal) = 1
    simp
  · show (((0#1 : BitVec 1).toNat : ℝ) : EReal) = 0
    simp

/-! ## The input blocks -/

variable (t : Fin cfg0.N)

/-- The row of the sequence that row `r` of grid point `t`'s block is. -/
def rowOf (r : Fin 512) : Fin 2048 :=
  ⟨(grid0.coords t 1).val * 512 + r.val, by have h : (grid0.coords t 1).val < 4 := (grid0.coords t 1).isLt; omega⟩

theorem e0 : ∀ t : Fin cfg0.N, win0_0.index t = ![(grid0.coords t 0).val, (grid0.coords t 1).val, 0] :=
  (by decide +kernel : ∀ t : Fin grid0.N, _)
theorem e1 : ∀ t : Fin cfg0.N, win0_1.index t = ![(grid0.coords t 0).val, (grid0.coords t 1).val, 0] :=
  (by decide +kernel : ∀ t : Fin grid0.N, _)
theorem e2 : ∀ t : Fin cfg0.N, win0_2.index t = ![(grid0.coords t 0).val, (grid0.coords t 1).val, 0] :=
  (by decide +kernel : ∀ t : Fin grid0.N, _)
theorem e3 : ∀ t : Fin cfg0.N, win0_3.index t = ![(grid0.coords t 0).val, (grid0.coords t 1).val, 9] :=
  (by decide +kernel : ∀ t : Fin grid0.N, _)
theorem e4 : ∀ t : Fin cfg0.N, win0_4.index t = ![(grid0.coords t 0).val, (grid0.coords t 1).val, 5] :=
  (by decide +kernel : ∀ t : Fin grid0.N, _)
theorem e5 : ∀ t : Fin cfg0.N, win0_5.index t = ![(grid0.coords t 0).val, (grid0.coords t 1).val, 6] :=
  (by decide +kernel : ∀ t : Fin grid0.N, _)
theorem e6 : ∀ t : Fin cfg0.N, win0_6.index t = ![(grid0.coords t 0).val, (grid0.coords t 1).val, 0] :=
  (by decide +kernel : ∀ t : Fin grid0.N, _)
theorem e7 : ∀ t : Fin cfg0.N, win0_7.index t = ![(grid0.coords t 0).val, 0, 0] :=
  (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![0, 0] := (by decide +kernel : ∀ t : Fin grid0.N, _)
theorem e12 : ∀ t : Fin cfg0.N, win0_12.index t = ![0, 0] := (by decide +kernel : ∀ t : Fin grid0.N, _)
theorem e13 : ∀ t : Fin cfg0.N, win0_13.index t = ![(grid0.coords t 0).val, (grid0.coords t 1).val, 0] :=
  (by decide +kernel : ∀ t : Fin grid0.N, _)

theorem block_0 (r : Fin 512) (k : Fin 1536) :
    (iblk m c 0 t : FVec Ideal S1x512x1536 .bf16) (ix3 (0 : Fin 1) r k)
      = (m (c.tc.loc main_arg0) : FVec Ideal S8x2048x1536 .bf16) (ix3 (grid0.coords t 0) (rowOf t r) k) := by
  blk_simp [iblk]
  rw [V_main_arg0]
  congr 1
  blk_ext [e0, rowOf]

theorem block_1 (r : Fin 512) (k : Fin 1536) :
    (iblk m c 1 t : FVec Ideal S1x512x1536 .bf16) (ix3 (0 : Fin 1) r k)
      = (m (c.tc.loc main_arg1) : FVec Ideal S8x2048x1536 .bf16) (ix3 (grid0.coords t 0) (rowOf t r) k) := by
  blk_simp [iblk]
  rw [V_main_arg1]
  congr 1
  blk_ext [e1, rowOf]

theorem block_2 (r : Fin 512) (k : Fin 1536) :
    (iblk m c 2 t : FVec Ideal S1x512x1536 .bf16) (ix3 (0 : Fin 1) r k)
      = (m (c.tc.loc main_arg2) : FVec Ideal S8x2048x1536 .bf16) (ix3 (grid0.coords t 0) (rowOf t r) k) := by
  blk_simp [iblk]
  rw [V_main_arg2]
  congr 1
  blk_ext [e2, rowOf]

theorem block_3 (r : Fin 512) (k : Fin 512) :
    (iblk m c 3 t : FVec Ideal S1x512x512 .bf16) (ix3 (0 : Fin 1) r k)
      = (m (c.tc.loc main_arg3) : FVec Ideal S8x2048x7680 .bf16) (ix3 (grid0.coords t 0) (rowOf t r) ⟨4608 + k.val, by omega⟩) := by
  blk_simp [iblk]
  rw [V_main_arg3]
  congr 1
  blk_ext [e3, rowOf]

theorem block_4 (r : Fin 512) (k : Fin 1024) :
    (X0_4 m c t : FVec Ideal S1x512x1024 .bf16) (ix3 (0 : Fin 1) r k)
      = (m (c.tc.loc main_arg3) : FVec Ideal S8x2048x7680 .bf16) (ix3 (grid0.coords t 0) (rowOf t r) ⟨5120 + k.val, by omega⟩) := by
  unfold X0_4 Pipeline.Window.fill
  rw [dif_pos (moved0_4 t _)]
  blk_simp [iblk]
  rw [V_main_arg3]
  congr 1
  blk_ext [e4, rowOf]

theorem block_5 (r : Fin 512) (k : Fin 1024) :
    (X0_5 m c t : FVec Ideal S1x512x1024 .bf16) (ix3 (0 : Fin 1) r k)
      = (m (c.tc.loc main_arg3) : FVec Ideal S8x2048x7680 .bf16) (ix3 (grid0.coords t 0) (rowOf t r) ⟨6144 + k.val, by omega⟩) := by
  unfold X0_5 Pipeline.Window.fill
  rw [dif_pos (moved0_5 t _)]
  blk_simp [iblk]
  rw [V_main_arg3]
  congr 1
  blk_ext [e5, rowOf]

theorem block_6 (r : Fin 512) (k : Fin 1024) :
    (iblk m c 6 t : FVec Ideal S1x512x1024 .f32) (ix3 (0 : Fin 1) r k)
      = (m (c.tc.loc main_arg4) : FVec Ideal S8x2048x1024 .f32) (ix3 (grid0.coords t 0) (rowOf t r) k) := by
  blk_simp [iblk]
  rw [V_main_arg4]
  congr 1
  blk_ext [e6, rowOf]

theorem block_7 (r : Fin 256) (k : Fin 1024) :
    (iblk m c 7 t : FVec Ideal S1x256x1024 .bf16) (ix3 (0 : Fin 1) r k)
      = (m (c.tc.loc main_arg5) : FVec Ideal S8x256x1024 .bf16) (ix3 (grid0.coords t 0) r k) := by
  blk_simp [iblk]
  rw [V_main_arg5]
  congr 1
  blk_ext [e7, rowOf]

theorem block_9 (k : Fin 1536) :
    (iblk m c 9 t : FVec Ideal S1x1536 .f32) (ix2 0 k) = (m (c.tc.loc main_arg7) : FVec Ideal S1x1536 .f32) (ix2 0 k) := by
  refine Eq.trans ?_ (host_g m c k)
  blk_simp [iblk]
  congr 1
  blk_ext [e9]

theorem block_10 (k : Fin 1536) :
    (iblk m c 10 t : FVec Ideal S1x1536 .f32) (ix2 0 k) = (m (c.tc.loc main_arg8) : FVec Ideal S1x1536 .f32) (ix2 0 k) := by
  refine Eq.trans ?_ (host_b m c k)
  blk_simp [iblk]
  congr 1
  blk_ext [e10]

theorem block_11 (k : Fin 1024) :
    (iblk m c 11 t : FVec Ideal S1x1024 .f32) (ix2 0 k) = (m (c.tc.loc main_arg9) : FVec Ideal S1024 .f32) (ix1 k) := by
  refine Eq.trans ?_ (host_f m c k)
  blk_simp [iblk]
  congr 1
  blk_ext [e11]

theorem block_8 (k : Fin 2048) (j : Fin 1024) :
    (iblk m c 8 t : FVec Ideal S2048x1024 .bf16) (ix2 k j)
      = (m (c.tc.loc main_arg6) : FVec Ideal S2x2048x1024 .f32) (ix3 1 k j) := by
  refine Eq.trans ?_ (host_w m c k j)
  blk_simp [iblk]
  congr 1
  blk_ext [e8]

theorem block_12 (l j : Fin 128) :
    (iblk m c 12 t : FVec Ideal S128x128 .bf16) (ix2 l j) = if l.val / 64 = j.val / 64 then (1 : EReal) else 0 := by
  refine Eq.trans ?_ (host_e m c l j)
  blk_simp [iblk]
  congr 1
  blk_ext [e12]

end Cert.KernelIdeal.Row

end
-- ==== Proof.OutRef.lean ====
/- The reference of the layer's last stage, read at an index: each of its result's rows is the plain row function of
   that row's activations. -/
module

public import proofs.«01_k».proof.Proof.OutRow
public import proofs.«01_k».proof.Proof.Gen.ReferenceIdeal.Read

@[expose] public section

set_option maxRecDepth 16384

noncomputable section

namespace Cert.ReferenceIdeal.Row

open Cert.ReferenceIdeal Cert.ReferenceIdeal.Gen Cert.ReferenceIdeal.Read Cert.Layer
open Idealize.ShloMosaic Idealize.SL.Sem

variable (x0 x1 x2 : (⟨S8x2048x1536, .bf16⟩ : BufTy).Contents (Elt Ideal))
variable (x3 : (⟨S8x2048x7680, .bf16⟩ : BufTy).Contents (Elt Ideal))
variable (x4 : (⟨S8x2048x1024, .f32⟩ : BufTy).Contents (Elt Ideal))
variable (x5 : (⟨S8x256x1024, .bf16⟩ : BufTy).Contents (Elt Ideal))
variable (x6 : (⟨S2x2048x1024, .f32⟩ : BufTy).Contents (Elt Ideal))
variable (x7 x8 : (⟨S1x1536, .f32⟩ : BufTy).Contents (Elt Ideal))
variable (x9 : (⟨S1024, .f32⟩ : BufTy).Contents (Elt Ideal))

theorem mean_eq (b : Fin 8) (t : Fin 2048) (h : Fin 24) :
    val_main_v11 x0 (ix4 b t h 0) = groupMean (fun c => x0 (ix3 b t c)) h := by
  pointwise [val_main_v11, val_main_v10, val_main_v9, val_main_v8, val_main_v7, val_main_v0, val_main_cst_0, val_main_cst]
  rfl

theorem var_eq (b : Fin 8) (t : Fin 2048) (h : Fin 24) :
    val_main_v18 x0 (ix4 b t h 0) = groupVar (fun c => x0 (ix3 b t c)) h := by
  pointwise [val_main_v18, val_main_v17, val_main_v16, val_main_v15, val_main_v14, val_main_v13, val_main_v12,
    val_main_v7, val_main_v0, val_main_cst_1, val_main_cst_2, mean_eq]
  rfl

theorem normed_eq (b : Fin 8) (t : Fin 2048) (c : Fin 1536) :
    val_main_v36 x0 x1 x2 x7 x8 (ix3 b t c) = normed (fun c => x0 (ix3 b t c)) (fun c => x1 (ix3 b t c))
      (fun c => x2 (ix3 b t c)) (fun c => x7 (ix2 0 c)) (fun c => x8 (ix2 0 c)) c := by
  pointwise [val_main_v36, val_main_v35, val_main_v34, val_main_v33, val_main_v32, val_main_v31, val_main_v30,
    val_main_v29, val_main_v28, val_main_v27, val_main_v26, val_main_v25, val_main_v24, val_main_v23, val_main_v22,
    val_main_v21, val_main_cst_3, val_main_v20, val_main_v19, val_main_v7, val_main_v0, val_main_v1, val_main_v2,
    mean_eq, var_eq]
  rfl

theorem score_eq (b : Fin 8) (n : Fin 4) (t : Fin 2048) (j : Fin 256) :
    val_main_v44 x3 x5 (ix4 b n t j) = score (fun c => x3 (ix3 b t ⟨4608 + c.val, by omega⟩))
      (fun m c => x5 (ix3 b m ⟨c.val, by omega⟩)) n j := by
  pointwise [val_main_v44, val_main_v43, val_main_cst_4, val_main_v42, val_main_v40, val_main_v39, val_main_v37,
    val_main_v5, val_main_v4, val_main_v3]
  rfl

theorem lift_score (h : S8x4x2048x256.Reduces [3] S8x4x2048) (b : Fin 8) (n : Fin 4) (t : Fin 2048)
    (k : Fin (S8x4x2048x256.size 3)) : h.lift (ix3 b n t) k = ix4 b n t (⟨k.val, k.isLt⟩ : Fin 256) := by
  funext c
  apply Fin.ext
  fin_cases c <;> rfl

theorem fold_scores (y : FVec Ideal S8x4x2048x256 .f32) (b : Fin 8) (n : Fin 4) (t : Fin 2048) :
    Host.reduce (α := Ideal .f32) FloatOps.maximumf y (val_main_cst_5 (F := Ideal)) reducesTo_S8x4x2048x256_S8x4x2048_d3 h_S_ (ix3 b n t)
      = (Finset.univ : Finset (Fin 256)).fold max (⊥ : EReal) fun k => y (ix4 b n t k) := by
  have hr : S8x4x2048x256.Reduces [3] S8x4x2048 := by decide
  rw [Host.reduce_eq_fold_single FloatOps.maximumf y _ reducesTo_S8x4x2048x256_S8x4x2048_d3 hr h_S_]
  have hf : (y ∘ hr.lift (ix3 b n t)) = fun k : Fin 256 => y (ix4 b n t k) :=
    funext fun k => congrArg y (lift_score hr b n t k)
  have hb : (val_main_cst_5 (F := Ideal)) (Shape.Idx.first h_S_) = (⊥ : EReal) := ofBits_negInf
  rw [hb]
  exact congrArg (fun f => Finset.fold max (⊥ : EReal) f (Finset.univ : Finset (Fin 256))) hf

theorem peak_eq (b : Fin 8) (n : Fin 4) (t : Fin 2048) :
    val_main_v47 x3 x5 (ix3 b n t) = peak (fun c => x3 (ix3 b t ⟨4608 + c.val, by omega⟩))
      (fun m c => x5 (ix3 b m ⟨c.val, by omega⟩)) n := by
  rw [val_main_v47_apply, val_main_v46_apply]
  unfold val_main_v45
  rw [fold_scores]
  simp only [score_eq]
  show max (Ideal.ofBits .f32 0xFF800000#32) _ = _
  rw [ofBits_negInf, max_bot_left]
  rfl

theorem weight_eq (b : Fin 8) (n : Fin 4) (t : Fin 2048) (j : Fin 256) :
    val_main_v51 x3 x5 (ix4 b n t j) = weight (fun c => x3 (ix3 b t ⟨4608 + c.val, by omega⟩))
      (fun m c => x5 (ix3 b m ⟨c.val, by omega⟩)) n j := by
  pointwise [val_main_v51, val_main_v50, val_main_v49, val_main_v48, score_eq, peak_eq]
  rfl

theorem attend_eq (b : Fin 8) (t : Fin 2048) (n : Fin 4) (d : Fin 128) :
    val_main_v57 x3 x5 (ix4 b t n d) = attend (fun c => x3 (ix3 b t ⟨4608 + c.val, by omega⟩))
      (fun m c => x5 (ix3 b m ⟨c.val, by omega⟩)) (fun m c => x5 (ix3 b m ⟨512 + c.val, by omega⟩)) n d := by
  pointwise [val_main_v57, val_main_v56, val_main_v55, val_main_v54, val_main_v53, val_main_v52, val_main_cst_7,
    weight_eq, val_main_v41, val_main_v38, val_main_v4]
  exact Finset.sum_congr rfl fun m _ => mul_comm _ _

theorem gated_eq (b : Fin 8) (t : Fin 2048) (c : Fin 2048) :
    val_main_v61 x0 x1 x2 x3 x5 x7 x8 (ix3 b t c) = gated
      (normed (fun c => x0 (ix3 b t c)) (fun c => x1 (ix3 b t c)) (fun c => x2 (ix3 b t c)) (fun c => x7 (ix2 0 c))
        (fun c => x8 (ix2 0 c)))
      (attend (fun c => x3 (ix3 b t ⟨4608 + c.val, by omega⟩)) (fun m c => x5 (ix3 b m ⟨c.val, by omega⟩))
        (fun m c => x5 (ix3 b m ⟨512 + c.val, by omega⟩)))
      (fun c => x3 (ix3 b t ⟨5120 + c.val, by omega⟩)) c := by
  pointwise [val_main_v61, val_main_v60, val_main_v59, val_main_v58, val_main_v6, val_main_v3,
    val_main_call0_v5, val_main_call0_v4, val_main_call0_v3, val_main_call0_v2, val_main_call0_v1, val_main_call0_v0,
    val_main_call0_cst, val_main_call0_cst_0, normed_eq, attend_eq]
  rfl

theorem projected_eq (b : Fin 8) (t : Fin 2048) (j : Fin 1024) :
    val_main_v65 x0 x1 x2 x3 x4 x5 x6 x7 x8 (ix3 b t j) = projected (fun j => x4 (ix3 b t j))
      (fun c => val_main_v61 x0 x1 x2 x3 x5 x7 x8 (ix3 b t c)) (fun c j => x6 (ix3 1 c j)) j := by
  pointwise [val_main_v65, val_main_v64, val_main_v63, val_main_v62]
  rfl

/-- The reference's result at batch `b`, row `t`, lane `j`. -/
theorem result_eq (b : Fin 8) (t : Fin 2048) (j : Fin 1024) :
    val_main_v78 x0 x1 x2 x3 x4 x5 x6 x7 x8 x9 (ix3 b t j) = rmsNorm (projected (fun j => x4 (ix3 b t j))
      (gated
        (normed (fun c => x0 (ix3 b t c)) (fun c => x1 (ix3 b t c)) (fun c => x2 (ix3 b t c)) (fun c => x7 (ix2 0 c))
          (fun c => x8 (ix2 0 c)))
        (attend (fun c => x3 (ix3 b t ⟨4608 + c.val, by omega⟩)) (fun m c => x5 (ix3 b m ⟨c.val, by omega⟩))
          (fun m c => x5 (ix3 b m ⟨512 + c.val, by omega⟩)))
        (fun c => x3 (ix3 b t ⟨5120 + c.val, by omega⟩)))
      (fun c j => x6 (ix3 1 c j))) (fun j => x9 (ix1 j)) j := by
  pointwise [val_main_v78, val_main_v77, val_main_v76, val_main_v75, val_main_v74, val_main_v73, val_main_v72,
    val_main_v71, val_main_cst_10, val_main_v70, val_main_v69, val_main_cst_9, val_main_v68, val_main_v67,
    val_main_cst_8, val_main_v66, projected_eq, gated_eq]
  rfl

end Cert.ReferenceIdeal.Row
-- ==== Proof.OutValue.lean ====
/- The array that the kernel's last stage leaves: the plain reference's result, where the attention's queries and keys
   are finite. -/
module

public import proofs.«01_k».proof.Proof.OutBlocks
public import proofs.«01_k».proof.Proof.OutRef
public import proofs.«01_k».proof.Proof.Gen.KernelIdeal.Value
public import proofs.«01_k».proof.Proof.Gen.Pre_scores_finite

@[expose] public section

set_option maxRecDepth 16384

noncomputable section

namespace Cert.KernelIdeal.Row

open Cert.KernelIdeal Cert.KernelIdeal.Gen Cert.Layer Idealize.ShloMosaic Idealize.ShloMosaic.TcCoe Idealize.SL.Sem

theorem infinity_bits : Ideal.ofBits FTy.f32 2139095040#32 = (⊤ : EReal) := by
  simp [Ideal.ofBits, Ideal.ieee]

/-- An extended real whose absolute value lies below infinity is a real. -/
theorem real_of_abs_lt {x : Ideal .bf16}
    (h : BitVec.ofBool (decide ((FloatOps.absf x : EReal) < Ideal.ofBits FTy.f32 2139095040#32)) = 1#1) :
    ∃ r : ℝ, (x : EReal) = r := by
  rw [infinity_bits] at h
  have h : (FloatOps.absf x : EReal) < ⊤ := by
    by_contra hc
    rw [decide_eq_false hc] at h
    exact absurd h (by decide)
  induction x using EReal.rec with
  | bot => exact absurd (show max (⊥ : EReal) (-⊥) < ⊤ from h) (by simp)
  | coe r => exact ⟨r, rfl⟩
  | top => exact absurd (show max (⊤ : EReal) (-⊤) < ⊤ from h) (by simp)

theorem pre_query {x0 x1 x2 x3 x4 x5 x6 x7 x8 x9} (h : Cert.Pre_scores_finite.fn (F := Ideal) x0 x1 x2 x3 x4 x5 x6 x7 x8 x9 = fun _ => 1#1)
    (b : Fin 8) (t : Fin 2048) (k : Fin 512) : ∃ r : ℝ, (x3 (ix3 b t ⟨4608 + k.val, by omega⟩) : EReal) = r := by
  have h := congrFun h (ix3 b (⟨t.val, by omega⟩ : Fin 2304) k)
  unfold Cert.Pre_scores_finite.fn at h
  pointwise at h
  exact real_of_abs_lt h

theorem pre_key {x0 x1 x2 x3 x4 x5 x6 x7 x8 x9} (h : Cert.Pre_scores_finite.fn (F := Ideal) x0 x1 x2 x3 x4 x5 x6 x7 x8 x9 = fun _ => 1#1)
    (b : Fin 8) (t : Fin 256) (k : Fin 512) : ∃ r : ℝ, (x5 (ix3 b t ⟨k.val, by omega⟩) : EReal) = r := by
  have h := congrFun h (ix3 b (⟨2048 + t.val, by omega⟩ : Fin 2304) k)
  unfold Cert.Pre_scores_finite.fn at h
  pointwise at h
  exact real_of_abs_lt h

variable (m : (ℓ : Loc nD τ sig) → Buf (Elt Ideal) ℓ) (c : Dev nD)

/-- The precondition, of the arguments in memory. -/
abbrev Finite : Prop :=
  Cert.Pre_scores_finite.fn (F := Ideal) (m (c.tc.loc main_arg0)) (m (c.tc.loc main_arg1)) (m (c.tc.loc main_arg2))
    (m (c.tc.loc main_arg3)) (m (c.tc.loc main_arg4)) (m (c.tc.loc main_arg5)) (m (c.tc.loc main_arg6)) (m (c.tc.loc main_arg7))
    (m (c.tc.loc main_arg8)) (m (c.tc.loc main_arg9)) = fun _ => 1#1

/-- The reference's result of the arguments in memory. -/
abbrev expected : FVec Ideal S8x2048x1024 .f32 :=
  Cert.ReferenceIdeal.Read.val_main_v78 (F := Ideal) (m (c.tc.loc main_arg0)) (m (c.tc.loc main_arg1))
    (m (c.tc.loc main_arg2)) (m (c.tc.loc main_arg3)) (m (c.tc.loc main_arg4)) (m (c.tc.loc main_arg5)) (m (c.tc.loc main_arg6))
    (m (c.tc.loc main_arg7)) (m (c.tc.loc main_arg8)) (m (c.tc.loc main_arg9))

/-- The gate of a row, read across its two blocks. -/
theorem gate_row (t : Fin cfg0.N) (r : Fin 512) :
    gateRow (X0_4 m c t) (X0_5 m c t) r = fun k => (m (c.tc.loc main_arg3) : FVec Ideal S8x2048x7680 .bf16)
      (ix3 (grid0.coords t 0) (rowOf t r) (⟨5120 + k.val, by omega⟩ : Fin 7680)) := by
  funext k
  unfold gateRow
  split
  · exact block_4 m c t r _
  · rename_i hk
    refine (block_5 m c t r _).trans ?_
    exact congrArg (fun k => (m (c.tc.loc main_arg3) : FVec Ideal S8x2048x7680 .bf16) (ix3 (grid0.coords t 0) (rowOf t r) k))
      (Fin.ext (by show 6144 + (k.val - 1024) = 5120 + k.val; omega))

/-- What grid point `t` leaves at row `r`, lane `j` of its block. -/
theorem point_row (h : Finite m c) (t : Fin cfg0.N) (r : Fin 512) (j : Fin 1024) :
    outsAt0 m c t (ix3 (0 : Fin 1) r j) = expected m c (ix3 (grid0.coords t 0) (rowOf t r) j) := by
  refine (block_row (he := block_12 m c t) ..).trans (Eq.trans ?_ (Cert.ReferenceIdeal.Row.result_eq ..).symm)
  unfold projRow blockRow
  rw [gate_row]
  simp only [block_0 m c t, block_1 m c t, block_2 m c t, block_3 m c t, block_6 m c t, block_7 m c t, block_8 m c t,
    block_9 m c t, block_10 m c t, block_11 m c t]
  rw [show attendLate _ _ _ = attend _ _ _ from funext fun n => funext fun d => attendLate_eq _
    (fun k => pre_query h (grid0.coords t 0) (rowOf t r) k) (fun a k => pre_key h (grid0.coords t 0) a k) n d]

theorem final_o (h : Finite m c) : (dats m 0 c).arrAt 13 cfg0.N = expected m c := by
  refine (dats m 0 c).arrAt_eq_of_covers 13 _ (by decide +kernel) fun t hf y => ?_
  blk_simp
  rw [after0_13]
  have hy : y = ix3 (0 : Fin 1) (y 1 : Fin 512) (y 2 : Fin 1024) := by
    funext a; fin_cases a
    · exact Subsingleton.elim (α := Fin 1) _ _
    · rfl
    · rfl
  have he : (win0_13.blk t).view.emb (ix3 (0 : Fin 1) (y 1 : Fin 512) (y 2 : Fin 1024))
      = (ix3 (grid0.coords t 0) (rowOf t (y 1)) (y 2) : S8x2048x1024.Idx) := by
    blk_ext [e13, rowOf]
  rw [hy]
  exact (point_row m c h t (y 1) (y 2)).trans (congrArg (expected m c) he.symm)

end Cert.KernelIdeal.Row

end
-- ==== Proof.OutClaim.lean ====
/- The claims about the RWKV-7 layer's last stage. -/
module

public import proofs.«01_k».proof.Proof.OutValue
public import proofs.«01_k».proof.Defs
public import proofs.«01_k».proof.Proof.Gen.Kernel.Frame
public import Idealize.ShloMosaic.Lib.Quiescent

@[expose] public section

set_option maxRecDepth 16384

noncomputable section

namespace Cert.Out

open Idealize.ShloMosaic Idealize.SL.Sem

theorem kernel_frame : Cert.quiescent_Kernel := fun m g _ => Cert.Kernel.Gen.frame m g

theorem ideal_frame : Cert.quiescent_KernelIdeal := fun m g _ => Cert.KernelIdeal.Gen.frame m g

theorem ideal_frame_finite : Cert.quiescent_KernelIdeal_pre_scores_finite := fun m g _ => Cert.KernelIdeal.Gen.frame m g

theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem reference_frame_finite : Cert.quiescent_ReferenceIdeal_pre_scores_finite := fun m g _ => reference_frame m g trivial

/-- Where the queries and keys are finite, the kernel leaves exactly the reference's result. -/
theorem value : Cert.algebraic_KernelIdeal_ReferenceIdeal_pre_scores_finite := by
  intro m g m' g' hfin hargs
  refine ⟨fun c => Cert.KernelIdeal.Row.expected m c, ?_, ?_⟩
  · refine (θ_run Cert.KernelIdeal.defs _ _).mono (fun r h c => ?_) (Cert.KernelIdeal.Value.run_blocks m g)
    exact ⟨(h c).1.trans (Cert.KernelIdeal.Row.final_o m c (hfin c)), (h c).2⟩
  · refine (θ_run Cert.ReferenceIdeal.defs _ _).mono (fun r h c => ?_) (Cert.ReferenceIdeal.Value.run m' g')
    refine ⟨(h c).1.trans ((Cert.ReferenceIdeal.Read.val_main_v78_eq m' c).trans ?_), (h c).2⟩
    obtain ⟨h0, h1, h2, h3, h4, h5, h6, h7, h8, h9⟩ := hargs c
    rw [h0, h1, h2, h3, h4, h5, h6, h7, h8, h9]

end Cert.Out

end
-- ==== Proof.NormDot.lean ====
/- One entry of a root-mean-square norm followed by a product with a weight matrix. -/
module

public import proofs.«01_k».proof.Proof.OutRow

@[expose] public section

noncomputable section

namespace Cert.Layer

open Idealize.ShloMosaic

/-- The normed row `x` with gains `g`, against the weights' column `w`. -/
def normDot (x g w : Fin 1024 → EReal) : EReal := ∑ k : Fin 1024, rmsNorm x g k * w k

/-- The sequence of row `n` of the flattened activations. -/
abbrev seqOf (n : Fin 16384) : Fin 8 := ⟨n.val / 2048, by omega⟩

/-- Its place in that sequence. -/
abbrev placeOf (n : Fin 16384) : Fin 2048 := ⟨n.val % 2048, by omega⟩

/-- The memory of row `n` of the flattened memories. -/
abbrev memOf (n : Fin 2048) : Fin 8 := ⟨n.val / 256, by omega⟩

/-- Its slot in that memory. -/
abbrev slotOf (n : Fin 2048) : Fin 256 := ⟨n.val % 256, by omega⟩

/-- The columns of the RWKV-7 input projection as the layer's later calls read them: receptance, keys and values, then
    the memory's queries and the gate, then the four low-rank inputs, each in 128 columns of its own with zeros behind. -/
def packed (f : Fin 7456 → EReal) (j : Fin 7680) : EReal :=
  if h1 : j.val < 4608 then f ⟨j.val, by omega⟩
  else if h2 : j.val < 7168 then f ⟨j.val + 288, by omega⟩
  else if h3 : j.val < 7296 then if j.val < 7232 then f ⟨j.val - 2560, by omega⟩ else 0
  else if h4 : j.val < 7424 then if j.val < 7488 - 128 then f ⟨j.val - 2624, by omega⟩ else 0
  else if h5 : j.val < 7552 then if j.val < 7456 then f ⟨j.val - 2688, by omega⟩ else 0
  else f ⟨j.val - 2784, by omega⟩

/-- A column of zeros gives zero, whatever the row holds. -/
theorem normDot_zero (x g : Fin 1024 → EReal) : normDot x g (fun _ => 0) = 0 := by
  unfold normDot
  simp

/-- Columns laid out as the host lays out the weights: the first 4608, the last 2560, then the four low-rank inputs. -/
theorem packed_of_weights (f : Fin 7456 → EReal) (j : Fin 7680) (z0 z1 z2 z3 : EReal) (h0 : z0 = 0) (h1 : z1 = 0)
    (h2 : z2 = 0) (h3 : z3 = 0) :
    (if h : j.val < 4608 then f ⟨j.val, by omega⟩
      else if h : j.val - 4608 < 2560 then f ⟨4896 + (j.val - 4608), by omega⟩
      else if h : j.val - 4608 - 2560 < 128 then
        if hh : j.val - 4608 - 2560 < 64 then f ⟨4608 + (j.val - 4608 - 2560), by omega⟩ else z0
      else if h : j.val - 4608 - 2560 - 128 < 128 then
        if hh : j.val - 4608 - 2560 - 128 < 64 then f ⟨4672 + (j.val - 4608 - 2560 - 128), by omega⟩ else z1
      else if h : j.val - 4608 - 2560 - 128 - 128 < 128 then
        if hh : j.val - 4608 - 2560 - 128 - 128 < 32 then f ⟨4736 + (j.val - 4608 - 2560 - 128 - 128), by omega⟩ else z2
      else if hh : j.val - 4608 - 2560 - 128 - 128 - 128 < 128 then
        f ⟨4768 + (j.val - 4608 - 2560 - 128 - 128 - 128), by omega⟩
      else z3) = packed f j := by
  subst h0 h1 h2 h3
  unfold packed
  split_ifs <;> first
    | omega
    | exact congrArg f (Fin.ext (by dsimp only; omega))
    | rfl

/-- The same of the reference, which joins its parts one by one. -/
theorem packed_of_parts (f : Fin 7456 → EReal) (j : Fin 7680) (z0 z1 z2 z3 : EReal) (h0 : z0 = 0) (h1 : z1 = 0)
    (h2 : z2 = 0) (h3 : z3 = 0) (b s : ℕ) (hb : b < 8) (hs : s < 2048) :
    (if h : j.val < 4608 then f ⟨j.val, by omega⟩
      else if h : j.val - 4608 < 512 then f ⟨4896 + (j.val - 4608), by omega⟩
      else if h : j.val - 4608 - 512 < 2048 then f ⟨5408 + (j.val - 4608 - 512), by omega⟩
      else if h : j.val - 4608 - 512 - 2048 < 128 then
        if hh : b < 8 ∧ s < 2048 ∧ j.val - 4608 - 512 - 2048 < 64 then f ⟨4608 + (j.val - 4608 - 512 - 2048), by omega⟩ else z0
      else if h : j.val - 4608 - 512 - 2048 - 128 < 128 then
        if hh : b < 8 ∧ s < 2048 ∧ j.val - 4608 - 512 - 2048 - 128 < 64 then
          f ⟨4672 + (j.val - 4608 - 512 - 2048 - 128), by omega⟩
        else z1
      else if h : j.val - 4608 - 512 - 2048 - 128 - 128 < 128 then
        if hh : b < 8 ∧ s < 2048 ∧ j.val - 4608 - 512 - 2048 - 128 - 128 < 32 then
          f ⟨4736 + (j.val - 4608 - 512 - 2048 - 128 - 128), by omega⟩
        else z2
      else if hh : b < 8 ∧ s < 2048 ∧ j.val - 4608 - 512 - 2048 - 128 - 128 - 128 < 128 then
        f ⟨4768 + (j.val - 4608 - 512 - 2048 - 128 - 128 - 128), by omega⟩
      else z3) = packed f j := by
  subst h0 h1 h2 h3
  unfold packed
  split_ifs <;> first
    | omega
    | exact congrArg f (Fin.ext (by dsimp only; omega))
    | rfl

/-- The integer zero, as a number. -/
theorem sitofp_zero : (FloatOps.sitofp (F := Ideal) .f32 (0#32) : EReal) = 0 := by
  show ((((0#32 : BitVec 32).toInt : ℤ) : ℝ) : EReal) = 0
  simp

/-- Packing the weights' columns packs the products. -/
theorem normDot_packed (x g : Fin 1024 → EReal) (w : Fin 1024 → Fin 7456 → EReal) (j : Fin 7680) :
    normDot x g (fun k => packed (w k) j) = packed (fun c => normDot x g fun k => w k c) j := by
  unfold packed
  split_ifs <;> first | rfl | exact normDot_zero x g

end Cert.Layer

end
-- ==== Proof.InRwkvHost.lean ====
/- The RWKV-7 layer's input projection: the arrays that the host hands to the call. -/
module

public import proofs.«01_k».proof.Proof.NormDot
public import proofs.«01_k».proof.Proof.Gen.Kernel2Ideal.Value
public import Idealize.ShloMosaic.Lib.Pipeline.ValueKit.Geometry
public import Idealize.ShloMosaic.Lib.Pipeline.ValueKit.Tiles
public import Idealize.ShloMosaic.Lib.Pipeline.ValueKit.Acc
public import Idealize.ShloMosaic.Lib.StableHlo.ReadAt

@[expose] public section

set_option maxRecDepth 16384

noncomputable section

namespace Cert.Kernel2Ideal.Row

open Cert.Kernel2Ideal Cert.Kernel2Ideal.Gen Cert.Layer Idealize.ShloMosaic Idealize.ShloMosaic.TcCoe Idealize.SL.Sem

variable (m : (ℓ : Loc nD τ sig) → Buf (Elt Ideal) ℓ) (c : Dev nD)

theorem host_x (n : Fin 16384) (k : Fin 1024) :
    (V m c main_v13 : FVec Ideal S16384x1024 .f32) (ix2 n k)
      = (m (c.tc.loc main_arg0) : FVec Ideal S8x2048x1024 .f32) (ix3 (seqOf n) (placeOf n) k) := by
  unfold V
  after_reads_at

theorem host_g (k : Fin 1024) :
    (V m c main_v17 : FVec Ideal S1x1024 .f32) (ix2 0 k) = (m (c.tc.loc main_arg1) : FVec Ideal S2x1024 .f32) (ix2 1 k) := by
  unfold V
  after_reads_at

theorem host_w (k : Fin 1024) (j : Fin 7680) :
    (V m c main_v16 : FVec Ideal S1024x7680 .bf16) (ix2 k j)
      = packed (fun a => (m (c.tc.loc main_arg2) : FVec Ideal S1x1024x7456 .f32) (ix3 0 k a)) j := by
  unfold V
  after_reads_at
  after_reads_at
  dsimp only [StableHlo.TRef.binary, StableHlo.TRef.of]
  after_reads_at
  exact packed_of_weights (fun a => (m (c.tc.loc main_arg2) : FVec Ideal S1x1024x7456 .f32) (ix3 0 k a)) j _ _ _ _
    sitofp_zero sitofp_zero sitofp_zero sitofp_zero

end Cert.Kernel2Ideal.Row

end
-- ==== Proof.InRwkvRef.lean ====
/- The RWKV-7 layer's input projection: the reference's result, column by column. -/
module

public import proofs.«01_k».proof.Proof.NormDot
public import proofs.«01_k».proof.Proof.Gen.Reference2Ideal.Read
public import Idealize.ShloMosaic.Lib.StableHlo.ReadAt

@[expose] public section

set_option maxRecDepth 16384

noncomputable section

namespace Cert.Reference2Ideal.Row

open Cert.Reference2Ideal Cert.Layer Idealize.ShloMosaic Idealize.ShloMosaic.TcCoe Idealize.SL.Sem

open Cert.Reference2Ideal.Read in
/-- The reference's projection before its columns are packed. -/
theorem reference_dot (x0 : FVec Ideal S8x2048x1024 .f32) (x1 : FVec Ideal S2x1024 .f32) (x2 : FVec Ideal S1x1024x7456 .f32)
    (b : Fin 8) (s : Fin 2048) (a : Fin 7456) :
    val_main_v16 (F := Ideal) x0 x1 x2 (ix3 b s a)
      = normDot (fun k => x0 (ix3 b s k)) (fun k => x1 (ix2 1 k)) (fun k => x2 (ix3 0 k a)) := by
  pointwise [val_main_v16, val_main_v15, val_main_v14, val_main_v13, val_main_v12, val_main_v11,
    val_main_v10, val_main_v9, val_main_v8, val_main_v7, val_main_cst_1, val_main_v6, val_main_v5, val_main_cst_0, val_main_v4,
    val_main_v3, val_main_cst, val_main_v2, val_main_v1, val_main_v0]
  rfl

open Cert.Reference2Ideal.Read in
theorem pad_zero : val_main_call0_v0 (F := Ideal) (Shape.Idx.first Cert.Reference2Ideal.Gen.h_S_) = 0
    ∧ val_main_call1_v0 (F := Ideal) (Shape.Idx.first Cert.Reference2Ideal.Gen.h_S_) = 0
    ∧ val_main_call2_v0 (F := Ideal) (Shape.Idx.first Cert.Reference2Ideal.Gen.h_S_) = 0
    ∧ val_main_call3_v0 (F := Ideal) (Shape.Idx.first Cert.Reference2Ideal.Gen.h_S_) = 0 :=
  ⟨sitofp_zero, sitofp_zero, sitofp_zero, sitofp_zero⟩

open Cert.Reference2Ideal.Read in
/-- The reference's result is its projection with the columns packed. -/
theorem reference_packed (x0 : FVec Ideal S8x2048x1024 .f32) (x1 : FVec Ideal S2x1024 .f32)
    (x2 : FVec Ideal S1x1024x7456 .f32) (n : Fin 16384) (j : Fin 7680) :
    val_main_v30 (F := Ideal) x0 x1 x2 (ix2 n j)
      = packed (fun a => val_main_v16 (F := Ideal) x0 x1 x2 (ix3 (seqOf n) (placeOf n) a)) j := by
  pointwise [val_main_v30, val_main_v29, val_main_v28, val_main_v27, val_main_v26, val_main_v25, val_main_v24, val_main_v23,
    val_main_v22, val_main_v21, val_main_v20, val_main_v19, val_main_v18, val_main_v17]
  exact packed_of_parts (fun a => val_main_v16 (F := Ideal) x0 x1 x2 (ix3 (seqOf n) (placeOf n) a)) j
    _ _ _ _ pad_zero.1 pad_zero.2.1 pad_zero.2.2.1
    pad_zero.2.2.2 _ _ (seqOf n).isLt (placeOf n).isLt

/-- The reference's result at row `n`, packed column `j`. -/
theorem reference_row (x0 : FVec Ideal S8x2048x1024 .f32) (x1 : FVec Ideal S2x1024 .f32) (x2 : FVec Ideal S1x1024x7456 .f32)
    (n : Fin 16384) (j : Fin 7680) :
    Cert.Reference2Ideal.Read.val_main_v30 (F := Ideal) x0 x1 x2 (ix2 n j)
      = packed (fun a => normDot (fun k => x0 (ix3 (seqOf n) (placeOf n) k)) (fun k => x1 (ix2 1 k)) (fun k => x2 (ix3 0 k a))) j := by
  rw [reference_packed]
  simp only [reference_dot]

end Cert.Reference2Ideal.Row

end
-- ==== Proof.InRwkv.lean ====
/- The RWKV-7 layer's input projection: what a grid point writes, and the array that is left. -/
module

public import proofs.«01_k».proof.Proof.InRwkvHost
public import proofs.«01_k».proof.Proof.InRwkvRef
public import Idealize.ShloMosaic.Lib.Pipeline.ValueKit.Geometry
public import Idealize.ShloMosaic.Lib.Pipeline.ValueKit.Tiles
public import Idealize.ShloMosaic.Lib.Pipeline.ValueKit.Acc
public import Idealize.ShloMosaic.Lib.StableHlo.ReadAt

@[expose] public section

set_option maxRecDepth 16384

noncomputable section

namespace Cert.Kernel2Ideal.Row

open Cert.Kernel2Ideal Cert.Kernel2Ideal.Gen Cert.Layer Idealize.ShloMosaic Idealize.ShloMosaic.TcCoe Idealize.SL.Sem

theorem hz : (![0, 0] : Fin 2 → Nat) = fun _ => 0 := funext fun a => by fin_cases a <;> rfl

/-- The body's product of its normed rows with its weights, at an index. -/
theorem pay_row (x0 : Vec Ideal S1024x1024 .f32) (x1 : Vec Ideal S1x1024 .f32) (x2 : Vec Ideal S1024x2560 .bf16)
    (r : Fin 1024) (j : Fin 2560) :
    k0_pay2 (k0_pay1 x0 x1) x2 (ix2 r j) = normDot (fun k => x0 (ix2 r k)) (fun k => x1 (ix2 0 k)) (fun k => x2 (ix2 k j)) := by
  pointwise [k0_pay2, k0_pay1]
  rfl

/-- What the first grid point of a row of blocks leaves in its result block. -/
theorem out_first (c : Dev nD) (i : grid0.Coords) (a2 : Memref sig .tc .vmem S1024x1024 .f32) (h2 : a2.IsWhole)
    (a3 : Memref sig .tc .vmem S1x1024 .f32) (h3 : a3.IsWhole) (a4 : Memref sig .tc .vmem S1024x2560 .bf16) (h4 : a4.IsWhole)
    (a5 : Memref sig .tc .vmem S1024x2560 .bf16) (h5 : a5.IsWhole) (a6 : Memref sig .tc .vmem S1024x1024 .bf16) (h6 : a6.IsWhole)
    (hc : cond0_0 i) (x0 : Vec Ideal S1024x1024 .f32) (x1 : Vec Ideal S1x1024 .f32) (x2 : Vec Ideal S1024x2560 .bf16) :
    out0_A_3 (F := Ideal) c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S1024x1024) _ hz]
  simp only [View.readAt_eq_ld, h2.read_unread, h3.read_unread, h4.read_unread, View.ld_unit_zero (S := S1024x1024) hz,
    View.ld_unit_zero (S := S1x1024) hz, View.ld_unit_zero (S := S1024x2560) hz]

/-- The normed rows it keeps for the points after it. -/
theorem kept_first (c : Dev nD) (i : grid0.Coords) (a2 : Memref sig .tc .vmem S1024x1024 .f32) (h2 : a2.IsWhole)
    (a3 : Memref sig .tc .vmem S1x1024 .f32) (h3 : a3.IsWhole) (a4 : Memref sig .tc .vmem S1024x2560 .bf16) (h4 : a4.IsWhole)
    (a5 : Memref sig .tc .vmem S1024x2560 .bf16) (h5 : a5.IsWhole) (a6 : Memref sig .tc .vmem S1024x1024 .bf16) (h6 : a6.IsWhole)
    (hc : cond0_0 i) (x0 : Vec Ideal S1024x1024 .f32) (x1 : Vec Ideal S1x1024 .f32) (x2 : Vec Ideal S1024x2560 .bf16) :
    sout0_A_0 (F := Ideal) c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S1024x1024) hz,
    View.ld_unit_zero (S := S1x1024) hz]

/-- What a later grid point leaves in its result block, from the normed rows kept for it. -/
theorem out_later (c : Dev nD) (i : grid0.Coords) (a2 : Memref sig .tc .vmem S1024x1024 .f32) (h2 : a2.IsWhole)
    (a3 : Memref sig .tc .vmem S1x1024 .f32) (h3 : a3.IsWhole) (a4 : Memref sig .tc .vmem S1024x2560 .bf16) (h4 : a4.IsWhole)
    (a5 : Memref sig .tc .vmem S1024x2560 .bf16) (h5 : a5.IsWhole) (a6 : Memref sig .tc .vmem S1024x1024 .bf16) (h6 : a6.IsWhole)
    (hc : ¬cond0_0 i) (x0 : Vec Ideal S1024x1024 .f32) (x1 : Vec Ideal S1x1024 .f32) (x2 : Vec Ideal S1024x2560 .bf16)
    (kept : Vec Ideal S1024x1024 .bf16) :
    out0_B_3 (F := Ideal) c i a2 h2 a3 h3 a4 h4 a5 h5 a6 h6 hc x0 x1 x2 kept = k0_pay2 kept x2 := by
  unfold out0_B_3
  rw [View.read_writes_eq_canon _ _ _ (cover0_B_3 c i a2 h2 a3 h3 a4 h4 a5 h5 a6 h6 hc x0 x1 x2 kept)]
  unfold kernelRun0_B
  dsimp only
  sl_unfold_words
  rw [View.canon_unit_zero hz]
  simp only [View.readAt_eq_ld, h6.read_unread, h4.read_unread, View.ld_unit_zero (S := S1024x1024) hz,
    View.ld_unit_zero (S := S1024x2560) hz]

variable (m : (ℓ : Loc nD τ sig) → Buf (Elt Ideal) ℓ) (c : Dev nD)
variable (t : Fin cfg0.N)

/-- The row of the activations that row `r` of grid point `t`'s block is. -/
def rowOf (r : Fin 1024) : Fin 16384 :=
  ⟨(grid0.coords t 0).val * 1024 + r.val, by have h : (grid0.coords t 0).val < 16 := (grid0.coords t 0).isLt; omega⟩

/-- The packed column that column `j` of grid point `t`'s block is. -/
def colOf (j : Fin 2560) : Fin 7680 :=
  ⟨(grid0.coords t 1).val * 2560 + j.val, by have h : (grid0.coords t 1).val < 3 := (grid0.coords t 1).isLt; omega⟩

theorem e0 : ∀ t : Fin cfg0.N, win0_0.index t = ![(grid0.coords t 0).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, (grid0.coords t 1).val] := (by decide +kernel : ∀ t : Fin grid0.N, _)
theorem e3 : ∀ t : Fin cfg0.N, win0_3.index t = ![(grid0.coords t 0).val, (grid0.coords t 1).val] :=
  (by decide +kernel : ∀ t : Fin grid0.N, _)
theorem row_of_point : ∀ t : Fin cfg0.N, (grid0.coords t 0).val = t.val / 3 := (by decide +kernel : ∀ t : Fin grid0.N, _)

theorem block_0 (r : Fin 1024) (k : Fin 1024) :
    (iblk m c 0 t : FVec Ideal S1024x1024 .f32) (ix2 r k)
      = (m (c.tc.loc main_arg0) : FVec Ideal S8x2048x1024 .f32) (ix3 (seqOf (rowOf t r)) (placeOf (rowOf t r)) k) := by
  refine Eq.trans ?_ (host_x m c (rowOf t r) k)
  blk_simp [iblk]
  congr 1
  blk_ext [e0, rowOf]

theorem block_1 (k : Fin 1024) :
    (iblk m c 1 t : FVec Ideal S1x1024 .f32) (ix2 0 k) = (m (c.tc.loc main_arg1) : FVec Ideal S2x1024 .f32) (ix2 1 k) := by
  refine Eq.trans ?_ (host_g m c k)
  blk_simp [iblk]
  congr 1
  blk_ext [e1]

theorem block_2 (k : Fin 1024) (j : Fin 2560) :
    (iblk m c 2 t : FVec Ideal S1024x2560 .bf16) (ix2 k j)
      = packed (fun a => (m (c.tc.loc main_arg2) : FVec Ideal S1x1024x7456 .f32) (ix3 0 k a)) (colOf t j) := by
  refine Eq.trans ?_ (host_w m c k (colOf t j))
  blk_simp [iblk]
  congr 1
  blk_ext [e2, colOf]

/-- A later point of a row of blocks has the activations and gains of the point before it. -/
theorem row_before (n : ℕ) (h : n + 1 < cfg0.N) (h0 : ¬(n + 1) % 3 = 0) (r : Fin 1024) :
    rowOf ⟨n, Nat.lt_of_succ_lt h⟩ r = rowOf ⟨n + 1, h⟩ r := by
  unfold rowOf
  simp only [row_of_point]
  exact Fin.ext (by show n / 3 * 1024 + r.val = (n + 1) / 3 * 1024 + r.val; omega)

theorem block_0_before (n : ℕ) (h : n + 1 < cfg0.N) (h0 : ¬(n + 1) % 3 = 0) :
    (iblk m c 0 ⟨n, Nat.lt_of_succ_lt h⟩ : FVec Ideal S1024x1024 .f32) = (iblk m c 0 ⟨n + 1, h⟩ : FVec Ideal S1024x1024 .f32) := by
  funext y
  have hy : y = ix2 (y 0 : Fin 1024) (y 1 : Fin 1024) := by
    funext a; fin_cases a <;> rfl
  rw [hy]
  refine (block_0 m c _ (y 0) (y 1)).trans (Eq.trans ?_ (block_0 m c _ (y 0) (y 1)).symm)
  rw [row_before n h h0 (y 0)]

theorem block_1_before (n : ℕ) (h : n + 1 < cfg0.N) :
    (iblk m c 1 ⟨n, Nat.lt_of_succ_lt h⟩ : FVec Ideal S1x1024 .f32) = (iblk m c 1 ⟨n + 1, h⟩ : FVec Ideal S1x1024 .f32) := by
  funext y
  have hy : y = ix2 0 (y 1 : Fin 1024) := by
    funext a; fin_cases a
    · exact Fin.ext (by have h := (y 0).isLt; show (y 0).val = 0; change (y 0).val < 1 at h; omega)
    · rfl
  rw [hy]
  exact (block_1 m c _ (y 1)).trans (block_1 m c _ (y 1)).symm

/-- The normed rows that grid point `t` works with. -/
def rows : Vec Ideal S1024x1024 .bf16 := k0_pay1 (F := Ideal) (iblk m c 0 t) (iblk m c 1 t)

theorem kept_of_first (h0 : t.val % 3 = 0) : (outsAt0 m c t.val t.isLt).2 = rows m c t := by
  rw [outsAt0_A m c t h0]
  dsimp only
  exact (kept_first c (grid0.coords t) (ms0_0 t) (hs0_0 t) (ms0_1 t) (hs0_1 t)
    (ms0_2 t) (hs0_2 t) (ms0_3 t) (hs0_3 t) scM0_0 (Memref.isWhole_whole _) ((hcond0_0 t).mpr h0) (iblk m c 0 t) (iblk m c 1 t)
    (iblk m c 2 t))

theorem kept_of_later (h0 : ¬t.val % 3 = 0) :
    (outsAt0 m c t.val t.isLt).2 = (outsAt0 m c (t.val - 1) (Nat.lt_of_le_of_lt (Nat.sub_le _ _) t.isLt)).2 := by
  rw [outsAt0_B m c t h0]
  dsimp only [sout0_B_0]

theorem rows_before (n : ℕ) (h : n + 1 < cfg0.N) (h0 : ¬(n + 1) % 3 = 0) :
    rows m c ⟨n, Nat.lt_of_succ_lt h⟩ = rows m c ⟨n + 1, h⟩ := by
  unfold rows
  rw [block_0_before m c n h h0, block_1_before m c n h]

/-- Every point of a row of blocks finds the normed rows kept by the first. -/
theorem kept_eq (n : ℕ) (h : n < cfg0.N) : (outsAt0 m c n h).2 = rows m c ⟨n, h⟩ := by
  induction n with
  | zero => exact kept_of_first m c ⟨0, h⟩ rfl
  | succ n ih =>
    by_cases h0 : (n + 1) % 3 = 0
    · exact kept_of_first m c ⟨n + 1, h⟩ h0
    · exact (kept_of_later m c ⟨n + 1, h⟩ h0).trans ((ih (Nat.lt_of_succ_lt h)).trans (rows_before m c n h h0))

/-- What grid point `t` leaves in its result block. -/
theorem out_of_first (h0 : t.val % 3 = 0) :
    (outsAt0 m c t.val t.isLt).1 = k0_pay2 (F := Ideal) (rows m c t) (iblk m c 2 t) := by
  rw [outsAt0_A m c t h0]
  dsimp only
  exact (out_first c (grid0.coords t) (ms0_0 t) (hs0_0 t) (ms0_1 t) (hs0_1 t)
    (ms0_2 t) (hs0_2 t) (ms0_3 t) (hs0_3 t) scM0_0 (Memref.isWhole_whole _) ((hcond0_0 t).mpr h0) (iblk m c 0 t) (iblk m c 1 t)
    (iblk m c 2 t))

theorem out_of_later (h0 : ¬t.val % 3 = 0) :
    (outsAt0 m c t.val t.isLt).1 = k0_pay2 (F := Ideal)
      (outsAt0 m c (t.val - 1) (Nat.lt_of_le_of_lt (Nat.sub_le _ _) t.isLt)).2 (iblk m c 2 t) := by
  rw [outsAt0_B m c t h0]
  dsimp only
  exact (out_later c (grid0.coords t) (ms0_0 t) (hs0_0 t) (ms0_1 t) (hs0_1 t)
    (ms0_2 t) (hs0_2 t) (ms0_3 t) (hs0_3 t) scM0_0 (Memref.isWhole_whole _) (fun h => h0 ((hcond0_0 t).mp h)) (iblk m c 0 t)
    (iblk m c 1 t) (iblk m c 2 t) _)

theorem out_eq : (outsAt0 m c t.val t.isLt).1 = k0_pay2 (F := Ideal) (rows m c t) (iblk m c 2 t) := by
  by_cases h0 : t.val % 3 = 0
  · exact out_of_first m c t h0
  · rw [out_of_later m c t h0, ← kept_of_later m c t h0, kept_eq m c t.val t.isLt]

/-- The reference's result of the arguments in memory. -/
abbrev expected : FVec Ideal S16384x7680 .bf16 :=
  Cert.Reference2Ideal.Read.val_main_v30 (F := Ideal) (m (c.tc.loc main_arg0)) (m (c.tc.loc main_arg1)) (m (c.tc.loc main_arg2))

theorem point_row (r : Fin 1024) (j : Fin 2560) :
    (outsAt0 m c t.val t.isLt).1 (ix2 r j) = expected m c (ix2 (rowOf t r) (colOf t j)) := by
  refine (congrFun (out_eq m c t) _).trans ((pay_row ..).trans (Eq.trans ?_ (Cert.Reference2Ideal.Row.reference_row ..).symm))
  simp only [block_0 m c t, block_1 m c t, block_2 m c t]
  exact normDot_packed _ _ (fun k a => (m (c.tc.loc main_arg2) : FVec Ideal S1x1024x7456 .f32) (ix3 0 k a)) _

theorem final_o : (dats m 0 c).arrAt 3 cfg0.N = expected m c := by
  refine (dats m 0 c).arrAt_eq_of_covers 3 _ (by decide +kernel) fun t hf y => ?_
  blk_simp
  rw [after0_3]
  have hy : y = ix2 (y 0 : Fin 1024) (y 1 : Fin 2560) := by
    funext a; fin_cases a <;> rfl
  have he : (win0_3.blk t).view.emb (ix2 (y 0 : Fin 1024) (y 1 : Fin 2560))
      = (ix2 (rowOf t (y 0)) (colOf t (y 1)) : S16384x7680.Idx) := by
    blk_ext [e3, rowOf, colOf]
  rw [hy]
  exact (point_row m c t (y 0) (y 1)).trans (congrArg (expected m c) he.symm)

end Cert.Kernel2Ideal.Row

end
-- ==== Proof.InMlstm.lean ====
/- The mLSTM layer's input projection: what a grid point writes, what the host hands it, and the array that is left. -/
module

public import proofs.«01_k».proof.Proof.NormDot
public import proofs.«01_k».proof.Proof.Gen.Kernel3Ideal.Value
public import proofs.«01_k».proof.Proof.Gen.Reference3Ideal.Read
public import Idealize.ShloMosaic.Lib.Pipeline.ValueKit.Geometry
public import Idealize.ShloMosaic.Lib.Pipeline.ValueKit.Tiles
public import Idealize.ShloMosaic.Lib.Pipeline.ValueKit.Acc
public import Idealize.ShloMosaic.Lib.StableHlo.ReadAt

@[expose] public section

set_option maxRecDepth 16384

noncomputable section

namespace Cert.Kernel3Ideal.Row

open Cert.Kernel3Ideal Cert.Kernel3Ideal.Gen Cert.Layer Idealize.ShloMosaic Idealize.ShloMosaic.TcCoe Idealize.SL.Sem

theorem hz : (![0, 0] : Fin 2 → Nat) = fun _ => 0 := funext fun a => by fin_cases a <;> rfl

/-- The body's product of its normed rows with its weights, at an index. -/
theorem pay_row (x0 : Vec Ideal S1024x1024 .f32) (x1 : Vec Ideal S1x1024 .f32) (x2 : Vec Ideal S1024x4096 .bf16)
    (r : Fin 1024) (j : Fin 4096) :
    k0_pay2 (k0_pay1 x0 x1) x2 (ix2 r j) = normDot (fun k => x0 (ix2 r k)) (fun k => x1 (ix2 0 k)) (fun k => x2 (ix2 k j)) := by
  pointwise [k0_pay2, k0_pay1]
  rfl

/-- What a grid point leaves in its result block. -/
theorem out_eq (c : Dev nD) (i : grid0.Coords) (a2 : Memref sig .tc .vmem S1024x1024 .f32) (h2 : a2.IsWhole)
    (a3 : Memref sig .tc .vmem S1x1024 .f32) (h3 : a3.IsWhole) (a4 : Memref sig .tc .vmem S1024x4096 .bf16) (h4 : a4.IsWhole)
    (a5 : Memref sig .tc .vmem S1024x4096 .bf16) (h5 : a5.IsWhole) (a6 : Memref sig .tc .vmem S1024x1024 .bf16) (h6 : a6.IsWhole)
    (hc : cond0_0 i) (x0 : Vec Ideal S1024x1024 .f32) (x1 : Vec Ideal S1x1024 .f32) (x2 : Vec Ideal S1024x4096 .bf16) :
    out0_A_3 (F := Ideal) c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S1024x1024) _ hz]
  simp only [View.readAt_eq_ld, h2.read_unread, h3.read_unread, h4.read_unread, View.ld_unit_zero (S := S1024x1024) hz,
    View.ld_unit_zero (S := S1x1024) hz, View.ld_unit_zero (S := S1024x4096) hz]

variable (m : (ℓ : Loc nD τ sig) → Buf (Elt Ideal) ℓ) (c : Dev nD)

theorem host_x (n : Fin 16384) (k : Fin 1024) :
    (V m c main_v0 : FVec Ideal S16384x1024 .f32) (ix2 n k)
      = (m (c.tc.loc main_arg0) : FVec Ideal S8x2048x1024 .f32) (ix3 (seqOf n) (placeOf n) k) := by
  unfold V
  after_reads_at

theorem host_g (k : Fin 1024) :
    (V m c main_v5 : FVec Ideal S1x1024 .f32) (ix2 0 k) = (m (c.tc.loc main_arg1) : FVec Ideal S2x1024 .f32) (ix2 0 k) := by
  unfold V
  after_reads_at

theorem host_w (k : Fin 1024) (j : Fin 4096) :
    (V m c main_v4 : FVec Ideal S1024x4096 .bf16) (ix2 k j) = (m (c.tc.loc main_arg2) : FVec Ideal S1x1024x4096 .f32) (ix3 0 k j) := by
  unfold V
  after_reads_at

variable (t : Fin cfg0.N)

/-- The row of the activations that row `r` of grid point `t`'s block is. -/
def rowOf (r : Fin 1024) : Fin 16384 :=
  ⟨(grid0.coords t 0).val * 1024 + r.val, by have h : (grid0.coords t 0).val < 16 := (grid0.coords t 0).isLt; omega⟩

theorem e0 : ∀ t : Fin cfg0.N, win0_0.index t = ![(grid0.coords t 0).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![(grid0.coords t 0).val, 0] := (by decide +kernel : ∀ t : Fin grid0.N, _)

theorem block_0 (r : Fin 1024) (k : Fin 1024) :
    (iblk m c 0 t : FVec Ideal S1024x1024 .f32) (ix2 r k)
      = (m (c.tc.loc main_arg0) : FVec Ideal S8x2048x1024 .f32) (ix3 (seqOf (rowOf t r)) (placeOf (rowOf t r)) k) := by
  refine Eq.trans ?_ (host_x m c (rowOf t r) k)
  blk_simp [iblk]
  congr 1
  blk_ext [e0, rowOf]

theorem block_1 (k : Fin 1024) :
    (iblk m c 1 t : FVec Ideal S1x1024 .f32) (ix2 0 k) = (m (c.tc.loc main_arg1) : FVec Ideal S2x1024 .f32) (ix2 0 k) := by
  refine Eq.trans ?_ (host_g m c k)
  blk_simp [iblk]
  congr 1
  blk_ext [e1]

theorem block_2 (k : Fin 1024) (j : Fin 4096) :
    (iblk m c 2 t : FVec Ideal S1024x4096 .bf16) (ix2 k j)
      = (m (c.tc.loc main_arg2) : FVec Ideal S1x1024x4096 .f32) (ix3 0 k j) := by
  refine Eq.trans ?_ (host_w m c k j)
  blk_simp [iblk]
  congr 1
  blk_ext [e2]

open Cert.Reference3Ideal.Read in
/-- The reference's result at row `n`, column `j`. -/
theorem reference_row (x0 : FVec Ideal S8x2048x1024 .f32) (x1 : FVec Ideal S2x1024 .f32) (x2 : FVec Ideal S1x1024x4096 .f32)
    (n : Fin 16384) (j : Fin 4096) :
    val_main_v18 (F := Ideal) x0 x1 x2 (ix2 n j)
      = normDot (fun k => x0 (ix3 (seqOf n) (placeOf n) k)) (fun k => x1 (ix2 0 k)) (fun k => x2 (ix3 0 k j)) := by
  pointwise [val_main_v18, val_main_v17, val_main_v16, val_main_v15, val_main_v14, val_main_v13, val_main_v12, val_main_v11,
    val_main_v10, val_main_v9, val_main_v8, val_main_v7, val_main_cst_1, val_main_v6, val_main_v5, val_main_cst_0, val_main_v4,
    val_main_v3, val_main_cst, val_main_v2, val_main_v1, val_main_v0]
  rfl

/-- The reference's result of the arguments in memory. -/
abbrev expected : FVec Ideal S16384x4096 .bf16 :=
  Cert.Reference3Ideal.Read.val_main_v18 (F := Ideal) (m (c.tc.loc main_arg0)) (m (c.tc.loc main_arg1)) (m (c.tc.loc main_arg2))

theorem point_row (r : Fin 1024) (j : Fin 4096) :
    outsAt0 m c t (ix2 r j) = expected m c (ix2 (rowOf t r) j) := by
  refine (congrFun (out_eq ..) _).trans ((pay_row ..).trans (Eq.trans ?_ (reference_row ..).symm))
  simp only [block_0 m c t, block_1 m c t, block_2 m c t]

theorem final_o : (dats m 0 c).arrAt 3 cfg0.N = expected m c := by
  refine (dats m 0 c).arrAt_eq_of_covers 3 _ (by decide +kernel) fun t hf y => ?_
  blk_simp
  rw [after0_3]
  have hy : y = ix2 (y 0 : Fin 1024) (y 1 : Fin 4096) := by
    funext a; fin_cases a <;> rfl
  have he : (win0_3.blk t).view.emb (ix2 (y 0 : Fin 1024) (y 1 : Fin 4096)) = (ix2 (rowOf t (y 0)) (y 1) : S16384x4096.Idx) := by
    blk_ext [e3, rowOf]
  rw [hy]
  exact (point_row m c t (y 0) (y 1)).trans (congrArg (expected m c) he.symm)

end Cert.Kernel3Ideal.Row

end
-- ==== Proof.InMemory.lean ====
/- The projection of the memory into keys and values: what a grid point writes, what the host hands it, and the array that is left. -/
module

public import proofs.«01_k».proof.Proof.NormDot
public import proofs.«01_k».proof.Proof.Gen.Kernel4Ideal.Value
public import proofs.«01_k».proof.Proof.Gen.Reference4Ideal.Read
public import Idealize.ShloMosaic.Lib.Pipeline.ValueKit.Geometry
public import Idealize.ShloMosaic.Lib.Pipeline.ValueKit.Tiles
public import Idealize.ShloMosaic.Lib.Pipeline.ValueKit.Acc
public import Idealize.ShloMosaic.Lib.StableHlo.ReadAt

@[expose] public section

set_option maxRecDepth 16384

noncomputable section

namespace Cert.Kernel4Ideal.Row

open Cert.Kernel4Ideal Cert.Kernel4Ideal.Gen Cert.Layer Idealize.ShloMosaic Idealize.ShloMosaic.TcCoe Idealize.SL.Sem

theorem hz : (![0, 0] : Fin 2 → Nat) = fun _ => 0 := funext fun a => by fin_cases a <;> rfl

/-- The body's product of its normed rows with its weights, at an index. -/
theorem pay_row (x0 : Vec Ideal S512x1024 .f32) (x1 : Vec Ideal S1x1024 .f32) (x2 : Vec Ideal S1024x1024 .bf16)
    (r : Fin 512) (j : Fin 1024) :
    k0_pay2 (k0_pay1 x0 x1) x2 (ix2 r j) = normDot (fun k => x0 (ix2 r k)) (fun k => x1 (ix2 0 k)) (fun k => x2 (ix2 k j)) := by
  pointwise [k0_pay2, k0_pay1]
  rfl

/-- What a grid point leaves in its result block. -/
theorem out_eq (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S512x1024 .bf16) (h5 : a5.IsWhole) (a6 : Memref sig .tc .vmem S512x1024 .bf16) (h6 : a6.IsWhole)
    (hc : cond0_0 i) (x0 : Vec Ideal S512x1024 .f32) (x1 : Vec Ideal S1x1024 .f32) (x2 : Vec Ideal S1024x1024 .bf16) :
    out0_A_3 (F := Ideal) c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S512x1024) _ hz]
  simp only [View.readAt_eq_ld, h2.read_unread, h3.read_unread, h4.read_unread, View.ld_unit_zero (S := S512x1024) hz,
    View.ld_unit_zero (S := S1x1024) hz, View.ld_unit_zero (S := S1024x1024) hz]

variable (m : (ℓ : Loc nD τ sig) → Buf (Elt Ideal) ℓ) (c : Dev nD)

theorem host_x (n : Fin 2048) (k : Fin 1024) :
    (V m c main_v0 : FVec Ideal S2048x1024 .f32) (ix2 n k)
      = (m (c.tc.loc main_arg0) : FVec Ideal S8x256x1024 .f32) (ix3 (memOf n) (slotOf n) k) := by
  unfold V
  after_reads_at

theorem host_g (k : Fin 1024) :
    (V m c main_v2 : FVec Ideal S1x1024 .f32) (ix2 0 k) = (m (c.tc.loc main_arg1) : FVec Ideal S1024 .f32) (ix1 k) := by
  unfold V
  after_reads_at

theorem host_w (k : Fin 1024) (j : Fin 1024) :
    (V m c main_v1 : FVec Ideal S1024x1024 .bf16) (ix2 k j) = (m (c.tc.loc main_arg2) : FVec Ideal S1024x1024 .f32) (ix2 k j) := by
  unfold V
  after_reads_at

variable (t : Fin cfg0.N)

/-- The row of the flattened memory that row `r` of grid point `t`'s block is. -/
def rowOf (r : Fin 512) : Fin 2048 :=
  ⟨(grid0.coords t 0).val * 512 + r.val, by have h : (grid0.coords t 0).val < 4 := (grid0.coords t 0).isLt; omega⟩

theorem e0 : ∀ t : Fin cfg0.N, win0_0.index t = ![(grid0.coords t 0).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![(grid0.coords t 0).val, 0] := (by decide +kernel : ∀ t : Fin grid0.N, _)

theorem block_0 (r : Fin 512) (k : Fin 1024) :
    (iblk m c 0 t : FVec Ideal S512x1024 .f32) (ix2 r k)
      = (m (c.tc.loc main_arg0) : FVec Ideal S8x256x1024 .f32) (ix3 (memOf (rowOf t r)) (slotOf (rowOf t r)) k) := by
  refine Eq.trans ?_ (host_x m c (rowOf t r) k)
  blk_simp [iblk]
  congr 1
  blk_ext [e0, rowOf]

theorem block_1 (k : Fin 1024) :
    (iblk m c 1 t : FVec Ideal S1x1024 .f32) (ix2 0 k) = (m (c.tc.loc main_arg1) : FVec Ideal S1024 .f32) (ix1 k) := by
  refine Eq.trans ?_ (host_g m c k)
  blk_simp [iblk]
  congr 1
  blk_ext [e1]

theorem block_2 (k : Fin 1024) (j : Fin 1024) :
    (iblk m c 2 t : FVec Ideal S1024x1024 .bf16) (ix2 k j)
      = (m (c.tc.loc main_arg2) : FVec Ideal S1024x1024 .f32) (ix2 k j) := by
  refine Eq.trans ?_ (host_w m c k j)
  blk_simp [iblk]
  congr 1
  blk_ext [e2]

open Cert.Reference4Ideal.Read in
/-- The reference's result at row `n`, column `j`. -/
theorem reference_row (x0 : FVec Ideal S8x256x1024 .f32) (x1 : FVec Ideal S1024 .f32) (x2 : FVec Ideal S1024x1024 .f32)
    (n : Fin 2048) (j : Fin 1024) :
    val_main_v15 (F := Ideal) x0 x1 x2 (ix2 n j)
      = normDot (fun k => x0 (ix3 (memOf n) (slotOf n) k)) (fun k => x1 (ix1 k)) (fun k => x2 (ix2 k j)) := by
  pointwise [val_main_v15, val_main_v14, val_main_v13, val_main_v12, val_main_v11, val_main_v10, val_main_v9, val_main_v8, val_main_v7, val_main_v6, val_main_v5, val_main_v4, val_main_v3, val_main_v2, val_main_v1, val_main_v0,
    val_main_cst_1, val_main_cst_0, val_main_cst]
  rfl

/-- The reference's result of the arguments in memory. -/
abbrev expected : FVec Ideal S2048x1024 .bf16 :=
  Cert.Reference4Ideal.Read.val_main_v15 (F := Ideal) (m (c.tc.loc main_arg0)) (m (c.tc.loc main_arg1)) (m (c.tc.loc main_arg2))

theorem point_row (r : Fin 512) (j : Fin 1024) :
    outsAt0 m c t (ix2 r j) = expected m c (ix2 (rowOf t r) j) := by
  refine (congrFun (out_eq ..) _).trans ((pay_row ..).trans (Eq.trans ?_ (reference_row ..).symm))
  simp only [block_0 m c t, block_1 m c t, block_2 m c t]

theorem final_o : (dats m 0 c).arrAt 3 cfg0.N = expected m c := by
  refine (dats m 0 c).arrAt_eq_of_covers 3 _ (by decide +kernel) fun t hf y => ?_
  blk_simp
  rw [after0_3]
  have hy : y = ix2 (y 0 : Fin 512) (y 1 : Fin 1024) := by
    funext a; fin_cases a <;> rfl
  have he : (win0_3.blk t).view.emb (ix2 (y 0 : Fin 512) (y 1 : Fin 1024)) = (ix2 (rowOf t (y 0)) (y 1) : S2048x1024.Idx) := by
    blk_ext [e3, rowOf]
  rw [hy]
  exact (point_row m c t (y 0) (y 1)).trans (congrArg (expected m c) he.symm)

end Cert.Kernel4Ideal.Row

end
-- ==== Proof.InClaim.lean ====
/- The claims about the three input projections. -/
module

public import proofs.«01_k».proof.Proof.InRwkv
public import proofs.«01_k».proof.Proof.InMlstm
public import proofs.«01_k».proof.Proof.InMemory
public import proofs.«01_k».proof.Defs
public import proofs.«01_k».proof.Proof.Gen.Kernel2.Frame
public import proofs.«01_k».proof.Proof.Gen.Reference2Ideal.Run
public import proofs.«01_k».proof.Proof.Gen.Kernel3.Frame
public import proofs.«01_k».proof.Proof.Gen.Reference3Ideal.Run
public import proofs.«01_k».proof.Proof.Gen.Kernel4.Frame
public import proofs.«01_k».proof.Proof.Gen.Reference4Ideal.Run
public import Idealize.ShloMosaic.Lib.Quiescent

@[expose] public section

set_option maxRecDepth 16384

noncomputable section

open Idealize.ShloMosaic Idealize.SL.Sem

namespace Cert.InRwkv

theorem kernel_frame : Cert.quiescent_Kernel2 := fun m g _ => Cert.Kernel2.Gen.frame m g

theorem ideal_frame : Cert.quiescent_Kernel2Ideal := fun m g _ => Cert.Kernel2Ideal.Gen.frame m g

theorem reference_frame : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- The kernel leaves exactly the reference's result: the packed projection of the RWKV-7 layer. -/
theorem value : Cert.algebraic_Kernel2Ideal_Reference2Ideal := by
  intro m g m' g' _ hargs
  refine ⟨fun c => Cert.Kernel2Ideal.Row.expected m c, ?_, ?_⟩
  · refine (θ_run Cert.Kernel2Ideal.defs _ _).mono (fun r h c => ?_) (Cert.Kernel2Ideal.Value.run_blocks m g)
    exact ⟨(h c).1.trans (Cert.Kernel2Ideal.Row.final_o m c), (h c).2⟩
  · refine (θ_run Cert.Reference2Ideal.defs _ _).mono (fun r h c => ?_) (Cert.Reference2Ideal.Value.run m' g')
    refine ⟨(h c).1.trans ((Cert.Reference2Ideal.Read.val_main_v30_eq m' c).trans ?_), (h c).2⟩
    obtain ⟨h0, h1, h2⟩ := hargs c
    rw [h0, h1, h2]

end Cert.InRwkv

namespace Cert.InMlstm

theorem kernel_frame : Cert.quiescent_Kernel3 := fun m g _ => Cert.Kernel3.Gen.frame m g

theorem ideal_frame : Cert.quiescent_Kernel3Ideal := fun m g _ => Cert.Kernel3Ideal.Gen.frame m g

theorem reference_frame : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The kernel leaves exactly the reference's result: the projection of the mLSTM layer. -/
theorem value : Cert.algebraic_Kernel3Ideal_Reference3Ideal := by
  intro m g m' g' _ hargs
  refine ⟨fun c => Cert.Kernel3Ideal.Row.expected m c, ?_, ?_⟩
  · refine (θ_run Cert.Kernel3Ideal.defs _ _).mono (fun r h c => ?_) (Cert.Kernel3Ideal.Value.run_blocks m g)
    exact ⟨(h c).1.trans (Cert.Kernel3Ideal.Row.final_o m c), (h c).2⟩
  · refine (θ_run Cert.Reference3Ideal.defs _ _).mono (fun r h c => ?_) (Cert.Reference3Ideal.Value.run m' g')
    refine ⟨(h c).1.trans ((Cert.Reference3Ideal.Read.val_main_v18_eq _ _ _).trans ?_), (h c).2⟩
    obtain ⟨h0, h1, h2⟩ := hargs c
    rw [h0, h1, h2]

end Cert.InMlstm

namespace Cert.InMemory

theorem kernel_frame : Cert.quiescent_Kernel4 := fun m g _ => Cert.Kernel4.Gen.frame m g

theorem ideal_frame : Cert.quiescent_Kernel4Ideal := fun m g _ => Cert.Kernel4Ideal.Gen.frame m g

theorem reference_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The kernel leaves exactly the reference's result: the projection of the memory. -/
theorem value : Cert.algebraic_Kernel4Ideal_Reference4Ideal := by
  intro m g m' g' _ hargs
  refine ⟨fun c => Cert.Kernel4Ideal.Row.expected m c, ?_, ?_⟩
  · refine (θ_run Cert.Kernel4Ideal.defs _ _).mono (fun r h c => ?_) (Cert.Kernel4Ideal.Value.run_blocks m g)
    exact ⟨(h c).1.trans (Cert.Kernel4Ideal.Row.final_o m c), (h c).2⟩
  · refine (θ_run Cert.Reference4Ideal.defs _ _).mono (fun r h c => ?_) (Cert.Reference4Ideal.Value.run m' g')
    refine ⟨(h c).1.trans ((Cert.Reference4Ideal.Read.val_main_v15_eq _ _ _).trans ?_), (h c).2⟩
    obtain ⟨h0, h1, h2⟩ := hargs c
    rw [h0, h1, h2]

end Cert.InMemory

end
-- ==== Proof.MixRow.lean ====
/- One row of the mLSTM layer's last stage, written plainly: the cell's output normalized over its four heads of 384
   lanes, with the skip connection. The attention over the memory, the gate and the projection are those of the other
   layer's last stage. -/
module

public import proofs.«01_k».proof.Proof.OutRow

@[expose] public section

noncomputable section

namespace Cert.Layer

open Idealize.ShloMosaic

/-- Lane `k` of head `h`. -/
abbrev lane384 (h : Fin 4) (k : Fin 384) : Fin 1536 := ⟨h.val * 384 + k.val, by omega⟩

/-- The head of lane `c`. -/
abbrev head384 (c : Fin 1536) : Fin 4 := ⟨c.val / 384, by omega⟩

theorem head384_lane (h : Fin 4) (k : Fin 384) : head384 (lane384 h k) = h := Fin.ext (by
  show (h.val * 384 + k.val) / 384 = h.val
  omega)

/-- The mean of a head. -/
def headMean (o : Fin 1536 → EReal) (h : Fin 4) : EReal :=
  Ideal.div (∑ k : Fin 384, o (lane384 h k)) (Ideal.ofBits .f32 0x43C00000#32)

/-- The variance of a head. -/
def headVar (o : Fin 1536 → EReal) (h : Fin 4) : EReal :=
  Ideal.div (∑ k : Fin 384, (o (lane384 h k) - headMean o h) * (o (lane384 h k) - headMean o h))
    (Ideal.ofBits .f32 0x43C00000#32)

/-- The normalized and scaled lane with its skip connection. -/
def mixed (o xc mg sk : Fin 1536 → EReal) (c : Fin 1536) : EReal :=
  (o c - headMean o (head384 c)) * Ideal.rsqrt (headVar o (head384 c) + Ideal.ofBits .f32 0x3727C5AC#32) * mg c
    + sk c * xc c

end Cert.Layer
-- ==== Proof.MixTile.lean ====
/- The pieces of work of the mLSTM layer's last kernel, read at an index: the normalization of one head of 384 lanes,
   one head of the memory attention, and a tile of the projection. -/
module

public import proofs.«01_k».proof.Proof.MixRow
public import proofs.«01_k».proof.Proof.Gen.Kernel5Ideal.Skeleton

@[expose] public section

set_option maxRecDepth 16384

noncomputable section

namespace Cert.Kernel5Ideal.Row

open Cert.Kernel5Ideal Cert.Kernel5Ideal.Gen Cert.Layer
open Idealize.ShloMosaic

/-- A head of 384 lanes normalized and scaled, with its skip connection, under its gate. -/
def mixTile (seg xc zz : Vec Ideal S1x256x384 .bf16) (mg sk : Vec Ideal S1x384 .f32) : FVec Ideal S256x384 .bf16 :=
  k0_pay6 (k0_pay2 seg mg sk xc) (k0_pay3 zz) (k0_pay4 zz) k0_pay5

/-- One head of the memory attention under its gate. -/
def headTile (q k v z : Vec Ideal S1x256x128 .bf16) : FVec Ideal S256x128 .bf16 :=
  k0_pay16 (k0_pay14 q k) k0_pay15 v z

/-- A tile of the projection with its residual. -/
def projTile (x : Vec Ideal S1x256x256 .f32) (y : Vec Ideal S256x2048 .bf16) (w : Vec Ideal S2048x256 .bf16) :
    FVec Ideal S1x256x256 .f32 :=
  k0_pay1 x y w

theorem mixTile_row (h : Fin 4) {seg xc zz : Vec Ideal S1x256x384 .bf16} {mg sk : Vec Ideal S1x384 .f32}
    {O C MG SK : Fin 1536 → EReal} {Z : Fin 2048 → EReal} {r : Fin 256}
    (hO : ∀ l : Fin 384, seg (ix3 0 r l) = O (lane384 h l))
    (hC : ∀ l : Fin 384, xc (ix3 0 r l) = C (lane384 h l))
    (hM : ∀ l : Fin 384, mg (ix2 0 l) = MG (lane384 h l))
    (hS : ∀ l : Fin 384, sk (ix2 0 l) = SK (lane384 h l))
    (hZ : ∀ l : Fin 384, zz (ix3 0 r l) = Z ⟨h.val * 384 + l.val, by omega⟩) (j : Fin 384) :
    mixTile seg xc zz mg sk (ix2 r j)
      = mixed O C MG SK (lane384 h j) * silu (Z ⟨h.val * 384 + j.val, by omega⟩) := by
  unfold mixTile
  pointwise [k0_pay6, k0_pay5, k0_pay4, k0_pay3, k0_pay2]
  simp only [half_tanh, hO, hC, hM, hS, hZ]
  unfold mixed
  rw [head384_lane]
  rfl

theorem headTile_row (n : Fin 4) {q k v z : Vec Ideal S1x256x128 .bf16} {Q : Fin 512 → EReal} {K V : Fin 256 → Fin 512 → EReal}
    {Z : Fin 2048 → EReal} {r : Fin 256}
    (hq : ∀ d : Fin 128, q (ix3 0 r d) = Q (lane128 n d))
    (hk : ∀ (m : Fin 256) (d : Fin 128), k (ix3 0 m d) = K m (lane128 n d))
    (hv : ∀ (m : Fin 256) (d : Fin 128), v (ix3 0 m d) = V m (lane128 n d))
    (hz : ∀ d : Fin 128, z (ix3 0 r d) = Z ⟨1536 + n.val * 128 + d.val, by omega⟩) (j : Fin 128) :
    headTile q k v z (ix2 r j) = attendLate Q K V n j * silu (Z ⟨1536 + n.val * 128 + j.val, by omega⟩) := by
  unfold headTile
  pointwise [k0_pay16, k0_pay15, k0_pay14]
  simp only [half_tanh, ofBits_negInf, hq, hk, hv, hz]
  rfl

theorem projTile_row (i : ℕ) (hi : i < 4) {x : Vec Ideal S1x256x256 .f32} {y : Vec Ideal S256x2048 .bf16}
    {w : Vec Ideal S2048x256 .bf16} {X : Fin 1024 → EReal} {Y : Fin 2048 → EReal} {W : Fin 2048 → Fin 1024 → EReal} {r : Fin 256}
    (hx : ∀ l : Fin 256, x (ix3 0 r l) = X ⟨i * 256 + l.val, by omega⟩)
    (hy : ∀ c : Fin 2048, y (ix2 r c) = Y c)
    (hw : ∀ (c : Fin 2048) (l : Fin 256), w (ix2 c l) = W c ⟨i * 256 + l.val, by omega⟩) (j : Fin 256) :
    projTile x y w (ix3 0 r j) = projected X Y W ⟨i * 256 + j.val, by omega⟩ := by
  unfold projTile
  pointwise [k0_pay1]
  simp only [hx, hy, hw]
  rfl

end Cert.Kernel5Ideal.Row
-- ==== Proof.MixWords.lean ====
/- What one grid point of the mLSTM layer's last kernel leaves in its two row buffers: every lane of every row is the
   gated normalized lane or the gated attention of that row. -/
module

public import proofs.«01_k».proof.Proof.MixTile
public import proofs.«01_k».proof.Proof.OutWords
public import proofs.«01_k».proof.Proof.Gen.Kernel5Ideal.Value
public import Idealize.ShloMosaic.Lib.Pipeline.ValueKit.Geometry
public import Idealize.ShloMosaic.Lib.Pipeline.ValueKit.Tiles

@[expose] public section

set_option maxRecDepth 16384

noncomputable section

namespace Cert.Kernel5Ideal.Row

open Cert.Kernel5Ideal Cert.Kernel5Ideal.Gen Cert.Layer
open Cert.KernelIdeal.Row (gated_norm gated_head)
open Idealize.ShloMosaic Idealize.SL.Sem

/-- A load of a box of a staged plane, at an index. -/
theorem load3 {R C p q : ℕ} {el : EltTy} {arg : Memref sig .tc .vmem ⟨3, ![1, R, C]⟩ el} (harg : arg.IsWhole)
    (x : Vec Ideal ⟨3, ![1, R, C]⟩ el) (a b : ℕ)
    (inb : ∀ t, (![0, a, b] : Fin 3 → ℕ) t + (![1, p, q] : Fin 3 → ℕ) t ≤ (![1, R, C] : Fin 3 → ℕ) t)
    (r : Fin p) (l : Fin q) (i : Fin R) (j : Fin C)
    (hi : i.val = a + r.val) (hj : j.val = b + l.val) :
    View.readAt (Elt Ideal) arg.view (Rect.unit (s := ⟨3, ![1, R, C]⟩) ![0, a, b] ![1, p, q] inb).toLoadRect (harg.unread x)
        (ix3 (0 : Fin 1) r l)
      = x (ix3 0 i j) := by
  rw [View.readAt_eq_ld, harg.read_unread]
  exact View.ld_unit_apply_of x _ _ _ _ _ fun t => by
    fin_cases t
    · rfl
    · exact hi
    · exact hj

/-- A load of a box of a staged matrix, at an index. -/
theorem load2 {R C p q : ℕ} {el : EltTy} {arg : Memref sig .tc .vmem ⟨2, ![R, C]⟩ el} (harg : arg.IsWhole)
    (x : Vec Ideal ⟨2, ![R, C]⟩ el) (a b : ℕ)
    (inb : ∀ t, (![a, b] : Fin 2 → ℕ) t + (![p, q] : Fin 2 → ℕ) t ≤ (![R, C] : Fin 2 → ℕ) t)
    (r : Fin p) (l : Fin q) (i : Fin R) (j : Fin C)
    (hi : i.val = a + r.val) (hj : j.val = b + l.val) :
    View.readAt (Elt Ideal) arg.view (Rect.unit (s := ⟨2, ![R, C]⟩) ![a, b] ![p, q] inb).toLoadRect (harg.unread x) (ix2 r l)
      = x (ix2 i j) := by
  rw [View.readAt_eq_ld, harg.read_unread]
  exact View.ld_unit_apply_of x _ _ _ _ _ fun t => by
    fin_cases t
    · exact hi
    · exact hj

section

variable (c : Dev nD)
variable (arg2 : Memref sig .tc .vmem S1x512x1536 .bf16) (harg2 : arg2.IsWhole) (arg3 : Memref sig .tc .vmem S1x512x1536 .bf16)
  (harg3 : arg3.IsWhole) (arg4 : Memref sig .tc .vmem S1x512x512 .bf16) (harg4 : arg4.IsWhole)
  (arg5 : Memref sig .tc .vmem S1x512x2048 .bf16) (harg5 : arg5.IsWhole) (arg6 : Memref sig .tc .vmem S1x512x1024 .f32)
  (harg6 : arg6.IsWhole) (arg7 : Memref sig .tc .vmem S1x256x1024 .bf16) (harg7 : arg7.IsWhole)
  (arg8 : Memref sig .tc .vmem S2048x1024 .bf16) (harg8 : arg8.IsWhole) (arg9 : Memref sig .tc .vmem S1x1536 .f32)
  (harg9 : arg9.IsWhole) (arg10 : Memref sig .tc .vmem S1x1536 .f32) (harg10 : arg10.IsWhole)
  (arg11 : Memref sig .tc .vmem S1x512x1024 .f32) (arg12 arg13 : Memref sig .tc .vmem S256x2048 .bf16)
variable (x0 x1 : Vec Ideal S1x512x1536 .bf16) (x2 : Vec Ideal S1x512x512 .bf16) (x3 : Vec Ideal S1x512x2048 .bf16)
  (x4 : Vec Ideal S1x512x1024 .f32) (x5 : Vec Ideal S1x256x1024 .bf16) (x6 : Vec Ideal S2048x1024 .bf16)
  (x7 x8 : Vec Ideal S1x1536 .f32)

/-- The gate's input of row `r`. -/
def gateRow (r : Fin 512) (k : Fin 2048) : EReal := x3 (ix3 0 r k)

/-- Row `r` of a grid point's blocks, gated: what the projection multiplies. -/
def blockRow (r : Fin 512) : Fin 2048 → EReal :=
  gated (mixed (fun k => x0 (ix3 0 r k)) (fun k => x1 (ix3 0 r k)) (fun k => x7 (ix2 0 k)) (fun k => x8 (ix2 0 k)))
    (attendLate (fun k => x2 (ix3 0 r k)) (fun m k => x5 (ix3 0 m ⟨k.val, by omega⟩))
      (fun m k => x5 (ix3 0 m ⟨512 + k.val, by omega⟩)))
    (gateRow x3 r)

/-- The gated rows of row block `s`, as the array a row buffer holds. -/
def bufferRows (s : Fin 2) (i : S256x2048.Idx) : EReal :=
  blockRow x0 x1 x2 x3 x5 x7 x8 ⟨s.val * 256 + (i 0).val, by
    have h : (i 0).val < 256 := (i 0).isLt
    omega⟩ (i 1)

/-- The array index a box of a row buffer places `(r, j)` at. -/
theorem emb_buffer (o w : ℕ) (inb) (ho : o + w ≤ 2048) (r : Fin 256) (j : Fin w) :
    (Rect.unit (s := S256x2048) ![0, o] ![256, w] inb).emb (ix2 r j)
      = (ix2 r (⟨o + j.val, by omega⟩ : Fin 2048)) := by
  funext a
  apply Fin.ext
  rw [ValueKit.rect_emb_unit_val]
  fin_cases a
  · show 0 + r.val = r.val
    omega
  · rfl

/-- A normalized head, where a row block's loads are read. -/
theorem tile_mix (s : Fin 2) (h : Fin 4) {b0 b1 b3 b7 b8 b16}
    (y : (Rect.unit (s := S256x2048) ![0, h.val * 384] S256x384.size b16).shape.Idx) :
    mixTile (View.readAt (Elt Ideal) arg2.view (Rect.unit (s := S1x512x1536) ![0, s.val * 256, h.val * 384] S1x256x384.size b0).toLoadRect (harg2.unread x0))
        (View.readAt (Elt Ideal) arg3.view (Rect.unit (s := S1x512x1536) ![0, s.val * 256, h.val * 384] S1x256x384.size b1).toLoadRect (harg3.unread x1))
        (View.readAt (Elt Ideal) arg5.view (Rect.unit (s := S1x512x2048) ![0, s.val * 256, h.val * 384] S1x256x384.size b3).toLoadRect (harg5.unread x3))
        (View.readAt (Elt Ideal) arg9.view (Rect.unit (s := S1x1536) ![0, h.val * 384] S1x384.size b7).toLoadRect (harg9.unread x7))
        (View.readAt (Elt Ideal) arg10.view (Rect.unit (s := S1x1536) ![0, h.val * 384] S1x384.size b8).toLoadRect (harg10.unread x8)) y
      = bufferRows x0 x1 x2 x3 x5 x7 x8 s ((Rect.unit (s := S256x2048) ![0, h.val * 384] S256x384.size b16).emb y) := by
  obtain ⟨r, j, rfl⟩ : ∃ (r : Fin 256) (j : Fin 384), y = ix2 r j := ⟨y 0, y 1, eq_ix2 y⟩
  rw [emb_buffer (h.val * 384) 384 b16 (by omega) r j]
  refine (mixTile_row h (O := fun k => x0 (ix3 0 ⟨s.val * 256 + r.val, by omega⟩ k))
    (C := fun k => x1 (ix3 0 ⟨s.val * 256 + r.val, by omega⟩ k))
    (MG := fun k => x7 (ix2 0 k)) (SK := fun k => x8 (ix2 0 k))
    (Z := gateRow x3 ⟨s.val * 256 + r.val, by omega⟩) ?_ ?_ ?_ ?_ ?_ j).trans ?_
  · exact fun l => load3 harg2 x0 _ _ _ r l _ _ rfl rfl
  · exact fun l => load3 harg3 x1 _ _ _ r l _ _ rfl rfl
  · exact fun l => load2 harg9 x7 _ _ _ 0 l _ _ rfl rfl
  · exact fun l => load2 harg10 x8 _ _ _ 0 l _ _ rfl rfl
  · exact fun l => load3 harg5 x3 _ _ _ r l _ _ rfl rfl
  · exact (gated_norm (h.val * 384 + j.val) (by omega)).symm

/-- A head of the attention. -/
theorem tile_head (s : Fin 2) (n : Fin 4) {b2 b5 b5' b3 b16}
    (y : (Rect.unit (s := S256x2048) ![0, 1536 + n.val * 128] S256x128.size b16).shape.Idx) :
    headTile (View.readAt (Elt Ideal) arg4.view (Rect.unit (s := S1x512x512) ![0, s.val * 256, n.val * 128] S1x256x128.size b2).toLoadRect (harg4.unread x2))
        (View.readAt (Elt Ideal) arg7.view (Rect.unit (s := S1x256x1024) ![0, 0, n.val * 128] S1x256x128.size b5).toLoadRect (harg7.unread x5))
        (View.readAt (Elt Ideal) arg7.view (Rect.unit (s := S1x256x1024) ![0, 0, 512 + n.val * 128] S1x256x128.size b5').toLoadRect (harg7.unread x5))
        (View.readAt (Elt Ideal) arg5.view (Rect.unit (s := S1x512x2048) ![0, s.val * 256, 1536 + n.val * 128] S1x256x128.size b3).toLoadRect (harg5.unread x3)) y
      = bufferRows x0 x1 x2 x3 x5 x7 x8 s ((Rect.unit (s := S256x2048) ![0, 1536 + n.val * 128] S256x128.size b16).emb y) := by
  obtain ⟨r, j, rfl⟩ : ∃ (r : Fin 256) (j : Fin 128), y = ix2 r j := ⟨y 0, y 1, eq_ix2 y⟩
  rw [emb_buffer (1536 + n.val * 128) 128 b16 (by omega) r j]
  refine (headTile_row n (Q := fun k => x2 (ix3 0 ⟨s.val * 256 + r.val, by omega⟩ k)) (K := fun m k => x5 (ix3 0 m ⟨k.val, by omega⟩))
    (V := fun m k => x5 (ix3 0 m ⟨512 + k.val, by omega⟩)) (Z := gateRow x3 ⟨s.val * 256 + r.val, by omega⟩)
    ?_ ?_ ?_ ?_ j).trans ?_
  · exact fun l => load3 harg4 x2 _ _ _ r l _ _ rfl rfl
  · exact fun m l => load3 harg7 x5 _ _ _ m l _ _ (by omega) rfl
  · exact fun m l => load3 harg7 x5 _ _ _ m l _ _ (by omega) (by show 512 + (n.val * 128 + l.val) = _; omega)
  · exact fun l => load3 harg5 x3 _ _ _ r l _ _ rfl rfl
  · exact (gated_head n j).symm

/-- What the first row buffer's stores leave. -/
theorem first_pieces : ∀ p ∈ kernelRun0_A.sl.HS0_8 (F := Ideal) c arg2 harg2 arg3 harg3 arg4 harg4 arg5 harg5 arg7 harg7
      arg9 harg9 arg10 harg10 x0 x1 x2 x3 x5 x7 x8,
      ∀ y, p.2 y = bufferRows x0 x1 x2 x3 x5 x7 x8 0 (p.1.emb y) := by
  unfold kernelRun0_A.sl.HS0_8
  simp only [List.forall_mem_cons]
  refine ⟨?_, ?_, ?_, ?_, ?_, ?_, ?_, ?_, fun _ h => absurd h List.not_mem_nil⟩
  · exact fun y => tile_head arg4 harg4 arg5 harg5 arg7 harg7 x0 x1 x2 x3 x5 x7 x8 0 3 y
  · exact fun y => tile_head arg4 harg4 arg5 harg5 arg7 harg7 x0 x1 x2 x3 x5 x7 x8 0 2 y
  · exact fun y => tile_head arg4 harg4 arg5 harg5 arg7 harg7 x0 x1 x2 x3 x5 x7 x8 0 1 y
  · exact fun y => tile_head arg4 harg4 arg5 harg5 arg7 harg7 x0 x1 x2 x3 x5 x7 x8 0 0 y
  · exact fun y => tile_mix arg2 harg2 arg3 harg3 arg5 harg5 arg9 harg9 arg10 harg10 x0 x1 x2 x3 x5 x7 x8 0 3 y
  · exact fun y => tile_mix arg2 harg2 arg3 harg3 arg5 harg5 arg9 harg9 arg10 harg10 x0 x1 x2 x3 x5 x7 x8 0 2 y
  · exact fun y => tile_mix arg2 harg2 arg3 harg3 arg5 harg5 arg9 harg9 arg10 harg10 x0 x1 x2 x3 x5 x7 x8 0 1 y
  · exact fun y => tile_mix arg2 harg2 arg3 harg3 arg5 harg5 arg9 harg9 arg10 harg10 x0 x1 x2 x3 x5 x7 x8 0 0 y

/-- What the second row buffer's stores leave. -/
theorem second_pieces : ∀ p ∈ kernelRun0_A.sl.HS1_8 (F := Ideal) c arg2 harg2 arg3 harg3 arg4 harg4 arg5 harg5 arg7 harg7
      arg9 harg9 arg10 harg10 x0 x1 x2 x3 x5 x7 x8,
      ∀ y, p.2 y = bufferRows x0 x1 x2 x3 x5 x7 x8 1 (p.1.emb y) := by
  unfold kernelRun0_A.sl.HS1_8
  simp only [List.forall_mem_cons]
  refine ⟨?_, ?_, ?_, ?_, ?_, ?_, ?_, ?_, fun _ h => absurd h List.not_mem_nil⟩
  · exact fun y => tile_head arg4 harg4 arg5 harg5 arg7 harg7 x0 x1 x2 x3 x5 x7 x8 1 3 y
  · exact fun y => tile_head arg4 harg4 arg5 harg5 arg7 harg7 x0 x1 x2 x3 x5 x7 x8 1 2 y
  · exact fun y => tile_head arg4 harg4 arg5 harg5 arg7 harg7 x0 x1 x2 x3 x5 x7 x8 1 1 y
  · exact fun y => tile_head arg4 harg4 arg5 harg5 arg7 harg7 x0 x1 x2 x3 x5 x7 x8 1 0 y
  · exact fun y => tile_mix arg2 harg2 arg3 harg3 arg5 harg5 arg9 harg9 arg10 harg10 x0 x1 x2 x3 x5 x7 x8 1 3 y
  · exact fun y => tile_mix arg2 harg2 arg3 harg3 arg5 harg5 arg9 harg9 arg10 harg10 x0 x1 x2 x3 x5 x7 x8 1 2 y
  · exact fun y => tile_mix arg2 harg2 arg3 harg3 arg5 harg5 arg9 harg9 arg10 harg10 x0 x1 x2 x3 x5 x7 x8 1 1 y
  · exact fun y => tile_mix arg2 harg2 arg3 harg3 arg5 harg5 arg9 harg9 arg10 harg10 x0 x1 x2 x3 x5 x7 x8 1 0 y

theorem first_cover (i : S256x2048.Idx) :
    ∃ p ∈ kernelRun0_A.sl.HS0_8 (F := Ideal) c arg2 harg2 arg3 harg3 arg4 harg4 arg5 harg5 arg7 harg7
      arg9 harg9 arg10 harg10 x0 x1 x2 x3 x5 x7 x8,
      i ∈ p.1.set := by
  have h0 : (i 0).val < 256 := (i 0).isLt
  have h1 : (i 1).val < 2048 := (i 1).isLt
  unfold kernelRun0_A.sl.HS0_8
  simp only [List.exists_mem_cons_iff, Rect.mem_set_unit, Fin.forall_fin_two]
  simp [S256x128, S256x384]
  omega

theorem second_cover (i : S256x2048.Idx) :
    ∃ p ∈ kernelRun0_A.sl.HS1_8 (F := Ideal) c arg2 harg2 arg3 harg3 arg4 harg4 arg5 harg5 arg7 harg7
      arg9 harg9 arg10 harg10 x0 x1 x2 x3 x5 x7 x8,
      i ∈ p.1.set := by
  have h0 : (i 0).val < 256 := (i 0).isLt
  have h1 : (i 1).val < 2048 := (i 1).isLt
  unfold kernelRun0_A.sl.HS1_8
  simp only [List.exists_mem_cons_iff, Rect.mem_set_unit, Fin.forall_fin_two]
  simp [S256x128, S256x384]
  omega

end

end Cert.Kernel5Ideal.Row
-- ==== Proof.MixKernel.lean ====
/- What one grid point of the mLSTM layer's last kernel writes: each row of its block is the plain row function of the
   point's input rows. -/
module

public import proofs.«01_k».proof.Proof.MixWords

@[expose] public section

set_option maxRecDepth 16384

noncomputable section

namespace Cert.Kernel5Ideal.Row

open Cert.Kernel5Ideal Cert.Kernel5Ideal.Gen Cert.Layer
open Idealize.ShloMosaic Idealize.SL.Sem

section

variable (c : Dev nD)
variable (arg2 : Memref sig .tc .vmem S1x512x1536 .bf16) (harg2 : arg2.IsWhole) (arg3 : Memref sig .tc .vmem S1x512x1536 .bf16)
  (harg3 : arg3.IsWhole) (arg4 : Memref sig .tc .vmem S1x512x512 .bf16) (harg4 : arg4.IsWhole)
  (arg5 : Memref sig .tc .vmem S1x512x2048 .bf16) (harg5 : arg5.IsWhole) (arg6 : Memref sig .tc .vmem S1x512x1024 .f32)
  (harg6 : arg6.IsWhole) (arg7 : Memref sig .tc .vmem S1x256x1024 .bf16) (harg7 : arg7.IsWhole)
  (arg8 : Memref sig .tc .vmem S2048x1024 .bf16) (harg8 : arg8.IsWhole) (arg9 : Memref sig .tc .vmem S1x1536 .f32)
  (harg9 : arg9.IsWhole) (arg10 : Memref sig .tc .vmem S1x1536 .f32) (harg10 : arg10.IsWhole)
  (arg11 : Memref sig .tc .vmem S1x512x1024 .f32) (arg12 arg13 : Memref sig .tc .vmem S256x2048 .bf16)
variable (x0 x1 : Vec Ideal S1x512x1536 .bf16) (x2 : Vec Ideal S1x512x512 .bf16) (x3 : Vec Ideal S1x512x2048 .bf16)
  (x4 : Vec Ideal S1x512x1024 .f32) (x5 : Vec Ideal S1x256x1024 .bf16) (x6 : Vec Ideal S2048x1024 .bf16)
  (x7 x8 : Vec Ideal S1x1536 .f32)

/-- Row `r` of a grid point's block with its projection added. -/
def projRow (r : Fin 512) : Fin 1024 → EReal :=
  projected (fun j => x4 (ix3 0 r j)) (blockRow x0 x1 x2 x3 x5 x7 x8 r) (fun k j => x6 (ix2 k j))

/-- The rows with the projection, as the array the result's buffer holds. -/
def projRows (i : S1x512x1024.Idx) : EReal := projRow x0 x1 x2 x3 x4 x5 x6 x7 x8 (i 1) (i 2)

theorem whole_buffer (inb) (r : Fin 256) (k : Fin 2048) :
    (Rect.unit (s := S256x2048) ![0, 0] S256x2048.size inb).idx (ix2 r k) = ix2 r k := by
  funext a
  apply Fin.ext
  rw [Rect.idx_unit_val]
  fin_cases a
  · exact Nat.zero_add _
  · exact Nat.zero_add _

theorem first_buffer (r : Fin 256) (k : Fin 2048) :
    kernelRun0_A.sl.v334 (F := Ideal) c arg2 harg2 arg3 harg3 arg4 harg4 arg5 harg5 arg7 harg7 arg9 harg9 arg10 harg10
      arg12 x0 x1 x2 x3 x5 x7 x8 (ix2 r k)
      = blockRow x0 x1 x2 x3 x5 x7 x8 ⟨(0 : Fin 2).val * 256 + r.val, by simp; omega⟩ k := by
  unfold kernelRun0_A.sl.v334
  rw [View.readCov_eq_canon']
  show View.canon _ ((Rect.unit (s := S256x2048) ![0, 0] S256x2048.size _).idx (ix2 r k)) = _
  rw [whole_buffer, View.canon_apply_of_pieces (bufferRows x0 x1 x2 x3 x5 x7 x8 0) _
    (first_pieces c arg2 harg2 arg3 harg3 arg4 harg4 arg5 harg5 arg7 harg7 arg9 harg9 arg10 harg10
      x0 x1 x2 x3 x5 x7 x8) _
    (first_cover c arg2 harg2 arg3 harg3 arg4 harg4 arg5 harg5 arg7 harg7 arg9 harg9 arg10 harg10
      x0 x1 x2 x3 x5 x7 x8 _)]
  rfl

theorem second_buffer (r : Fin 256) (k : Fin 2048) :
    kernelRun0_A.sl.v736 (F := Ideal) c arg2 harg2 arg3 harg3 arg4 harg4 arg5 harg5 arg7 harg7 arg9 harg9 arg10 harg10
      arg13 x0 x1 x2 x3 x5 x7 x8 (ix2 r k)
      = blockRow x0 x1 x2 x3 x5 x7 x8 ⟨(1 : Fin 2).val * 256 + r.val, by simp; omega⟩ k := by
  unfold kernelRun0_A.sl.v736
  rw [View.readCov_eq_canon']
  show View.canon _ ((Rect.unit (s := S256x2048) ![0, 0] S256x2048.size _).idx (ix2 r k)) = _
  rw [whole_buffer, View.canon_apply_of_pieces (bufferRows x0 x1 x2 x3 x5 x7 x8 1) _
    (second_pieces c arg2 harg2 arg3 harg3 arg4 harg4 arg5 harg5 arg7 harg7 arg9 harg9 arg10 harg10
      x0 x1 x2 x3 x5 x7 x8) _
    (second_cover c arg2 harg2 arg3 harg3 arg4 harg4 arg5 harg5 arg7 harg7 arg9 harg9 arg10 harg10
      x0 x1 x2 x3 x5 x7 x8 _)]
  rfl

/-- A tile of the projection, where row block `s` stores it. -/
theorem tile_proj (s : Fin 2) (i : ℕ) (hi : i < 4) {Y : Vec Ideal S256x2048 .bf16}
    (hY : ∀ (r : Fin 256) (k : Fin 2048), Y (ix2 r k) = blockRow x0 x1 x2 x3 x5 x7 x8 ⟨s.val * 256 + r.val, by omega⟩ k)
    {b4 b6 b9} (y : (Rect.unit (s := S1x512x1024) ![0, s.val * 256, i * 256] S1x256x256.size b9).shape.Idx) :
    projTile (View.readAt (Elt Ideal) arg6.view (Rect.unit (s := S1x512x1024) ![0, s.val * 256, i * 256] S1x256x256.size b4).toLoadRect (harg6.unread x4))
        Y (View.readAt (Elt Ideal) arg8.view (Rect.unit (s := S2048x1024) ![0, i * 256] S2048x256.size b6).toLoadRect (harg8.unread x6)) y
      = projRows x0 x1 x2 x3 x4 x5 x6 x7 x8 ((Rect.unit (s := S1x512x1024) ![0, s.val * 256, i * 256] S1x256x256.size b9).emb y) := by
  obtain ⟨z, r, j, rfl⟩ : ∃ (z : Fin 1) (r j : Fin 256), y = ix3 z r j := ⟨y 0, y 1, y 2, eq_ix3 y⟩
  obtain rfl := Subsingleton.elim z 0
  have hemb : (Rect.unit (s := S1x512x1024) ![0, s.val * 256, i * 256] S1x256x256.size b9).emb (ix3 0 r j)
      = ix3 0 (⟨s.val * 256 + r.val, by omega⟩ : Fin 512) (⟨i * 256 + j.val, by omega⟩ : Fin 1024) := by
    funext a
    apply Fin.ext
    rw [ValueKit.rect_emb_unit_val]
    fin_cases a <;> rfl
  rw [hemb]
  exact projTile_row i hi (X := fun j => x4 (ix3 0 ⟨s.val * 256 + r.val, by omega⟩ j))
    (Y := blockRow x0 x1 x2 x3 x5 x7 x8 ⟨s.val * 256 + r.val, by omega⟩) (W := fun k j => x6 (ix2 k j))
    (fun l => load3 harg6 x4 _ _ _ r l _ _ rfl rfl) (hY r) (fun k l => load2 harg8 x6 _ _ _ k l _ _ (Nat.zero_add _).symm rfl) j

variable (harg11 : arg11.IsWhole) (harg12 : arg12.IsWhole) (harg13 : arg13.IsWhole)

/-- Row `r`, lane `j` of what a grid point writes. -/
theorem block_row (i : grid0.Coords) (r : Fin 512) (j : Fin 1024) :
    out0_A_9 (F := Ideal) c i arg2 harg2 arg3 harg3 arg4 harg4 arg5 harg5 arg6 harg6 arg7 harg7 arg8 harg8 arg9 harg9
      arg10 harg10 arg11 harg11 arg12 harg12 arg13 harg13 x0 x1 x2 x3 x4 x5 x6 x7 x8 (ix3 (0 : Fin 1) r j)
      = projRow x0 x1 x2 x3 x4 x5 x6 x7 x8 r j := by
  have h1 := first_buffer c arg2 harg2 arg3 harg3 arg4 harg4 arg5 harg5 arg7 harg7 arg9 harg9 arg10 harg10
    arg12 x0 x1 x2 x3 x5 x7 x8
  have h2 := second_buffer c arg2 harg2 arg3 harg3 arg4 harg4 arg5 harg5 arg7 harg7 arg9 harg9 arg10 harg10
    arg13 x0 x1 x2 x3 x5 x7 x8
  have hc := cover0_A_9 (F := Ideal) c i arg2 harg2 arg3 harg3 arg4 harg4 arg5 harg5 arg6 harg6 arg7 harg7 arg8 harg8 arg9 harg9
    arg10 harg10 arg11 harg11 arg12 harg12 arg13 harg13 x0 x1 x2 x3 x4 x5 x6 x7 x8
  unfold out0_A_9
  rw [View.read_writes_eq_canon _ _ _ hc]
  refine (View.canon_apply_of_pieces (projRows x0 x1 x2 x3 x4 x5 x6 x7 x8) _ ?_ _ (hc _)).trans rfl
  unfold kernelRun0_A
  dsimp only
  simp only [List.forall_mem_cons]
  refine ⟨?_, ?_, ?_, ?_, ?_, ?_, ?_, ?_, fun _ h => absurd h List.not_mem_nil⟩
  · exact fun y => tile_proj arg6 harg6 arg8 harg8 x0 x1 x2 x3 x4 x5 x6 x7 x8 1 3 (by omega) h2 y
  · exact fun y => tile_proj arg6 harg6 arg8 harg8 x0 x1 x2 x3 x4 x5 x6 x7 x8 1 2 (by omega) h2 y
  · exact fun y => tile_proj arg6 harg6 arg8 harg8 x0 x1 x2 x3 x4 x5 x6 x7 x8 1 1 (by omega) h2 y
  · exact fun y => tile_proj arg6 harg6 arg8 harg8 x0 x1 x2 x3 x4 x5 x6 x7 x8 1 0 (by omega) h2 y
  · exact fun y => tile_proj arg6 harg6 arg8 harg8 x0 x1 x2 x3 x4 x5 x6 x7 x8 0 3 (by omega) h1 y
  · exact fun y => tile_proj arg6 harg6 arg8 harg8 x0 x1 x2 x3 x4 x5 x6 x7 x8 0 2 (by omega) h1 y
  · exact fun y => tile_proj arg6 harg6 arg8 harg8 x0 x1 x2 x3 x4 x5 x6 x7 x8 0 1 (by omega) h1 y
  · exact fun y => tile_proj arg6 harg6 arg8 harg8 x0 x1 x2 x3 x4 x5 x6 x7 x8 0 0 (by omega) h1 y

end

end Cert.Kernel5Ideal.Row
-- ==== Proof.MixBlocks.lean ====
/- What a grid point of the mLSTM layer's last kernel is handed: the arrays that the host code prepares, and each input
   window's block as entries of the argument arrays. -/
module

public import proofs.«01_k».proof.Proof.MixKernel
public import Idealize.ShloMosaic.Lib.Pipeline.ValueKit.Acc
public import Idealize.ShloMosaic.Lib.StableHlo.ReadAt

@[expose] public section

set_option maxRecDepth 16384

noncomputable section

namespace Cert.Kernel5Ideal.Row

open Cert.Kernel5Ideal Cert.Kernel5Ideal.Gen Idealize.ShloMosaic Idealize.ShloMosaic.TcCoe Idealize.SL.Sem

variable (m : (ℓ : Loc nD τ sig) → Buf (Elt Ideal) ℓ) (c : Dev nD)

/-! ## The arrays the host prepares -/

theorem host_w (k : Fin 2048) (j : Fin 1024) :
    (V m c main_v2 : FVec Ideal S2048x1024 .bf16) (ix2 k j) = (m (c.tc.loc main_arg5) : FVec Ideal S2x2048x1024 .f32) (ix3 0 k j) := by
  unfold V
  after_reads_at

theorem host_g (j : Fin 1536) :
    (V m c main_v5 : FVec Ideal S1x1536 .f32) (ix2 0 j) = (m (c.tc.loc main_arg6) : FVec Ideal S1x1536 .f32) (ix2 0 j) := by
  unfold V
  after_reads_at

theorem host_s (j : Fin 1536) :
    (V m c main_v6 : FVec Ideal S1x1536 .f32) (ix2 0 j) = (m (c.tc.loc main_arg7) : FVec Ideal S1x1536 .f32) (ix2 0 j) := by
  unfold V
  after_reads_at

/-! ## The input blocks -/

variable (t : Fin cfg0.N)

/-- The row of the sequence that row `r` of grid point `t`'s block is. -/
def rowOf (r : Fin 512) : Fin 2048 :=
  ⟨(grid0.coords t 1).val * 512 + r.val, by have h : (grid0.coords t 1).val < 4 := (grid0.coords t 1).isLt; omega⟩

theorem e0 : ∀ t : Fin cfg0.N, win0_0.index t = ![(grid0.coords t 0).val, (grid0.coords t 1).val, 0] :=
  (by decide +kernel : ∀ t : Fin grid0.N, _)
theorem e1 : ∀ t : Fin cfg0.N, win0_1.index t = ![(grid0.coords t 0).val, (grid0.coords t 1).val, 0] :=
  (by decide +kernel : ∀ t : Fin grid0.N, _)
theorem e2 : ∀ t : Fin cfg0.N, win0_2.index t = ![(grid0.coords t 0).val, (grid0.coords t 1).val, 3] :=
  (by decide +kernel : ∀ t : Fin grid0.N, _)
theorem e3 : ∀ t : Fin cfg0.N, win0_3.index t = ![(grid0.coords t 0).val, (grid0.coords t 1).val, 1] :=
  (by decide +kernel : ∀ t : Fin grid0.N, _)
theorem e4 : ∀ t : Fin cfg0.N, win0_4.index t = ![(grid0.coords t 0).val, (grid0.coords t 1).val, 0] :=
  (by decide +kernel : ∀ t : Fin grid0.N, _)
theorem e5 : ∀ t : Fin cfg0.N, win0_5.index t = ![(grid0.coords t 0).val, 0, 0] :=
  (by decide +kernel : ∀ t : Fin grid0.N, _)
theorem e6 : ∀ t : Fin cfg0.N, win0_6.index t = ![0, 0] :=
  (by decide +kernel : ∀ t : Fin grid0.N, _)
theorem e7 : ∀ t : Fin cfg0.N, win0_7.index t = ![0, 0] :=
  (by decide +kernel : ∀ t : Fin grid0.N, _)
theorem e8 : ∀ t : Fin cfg0.N, win0_8.index t = ![0, 0] :=
  (by decide +kernel : ∀ t : Fin grid0.N, _)
theorem e9 : ∀ t : Fin cfg0.N, win0_9.index t = ![(grid0.coords t 0).val, (grid0.coords t 1).val, 0] :=
  (by decide +kernel : ∀ t : Fin grid0.N, _)

theorem block_0 (r : Fin 512) (k : Fin 1536) :
    (iblk m c 0 t : FVec Ideal S1x512x1536 .bf16) (ix3 (0 : Fin 1) r k)
      = (m (c.tc.loc main_arg0) : FVec Ideal S8x2048x1536 .bf16) (ix3 (grid0.coords t 0) (rowOf t r) k) := by
  blk_simp [iblk]
  rw [V_main_arg0]
  congr 1
  blk_ext [e0, rowOf]

theorem block_1 (r : Fin 512) (k : Fin 1536) :
    (iblk m c 1 t : FVec Ideal S1x512x1536 .bf16) (ix3 (0 : Fin 1) r k)
      = (m (c.tc.loc main_arg1) : FVec Ideal S8x2048x1536 .bf16) (ix3 (grid0.coords t 0) (rowOf t r) k) := by
  blk_simp [iblk]
  rw [V_main_arg1]
  congr 1
  blk_ext [e1, rowOf]

theorem block_2 (r : Fin 512) (k : Fin 512) :
    (iblk m c 2 t : FVec Ideal S1x512x512 .bf16) (ix3 (0 : Fin 1) r k)
      = (m (c.tc.loc main_arg2) : FVec Ideal S8x2048x4096 .bf16) (ix3 (grid0.coords t 0) (rowOf t r) ⟨1536 + k.val, by omega⟩) := by
  blk_simp [iblk]
  rw [V_main_arg2]
  congr 1
  blk_ext [e2, rowOf]

theorem block_3 (r : Fin 512) (k : Fin 2048) :
    (iblk m c 3 t : FVec Ideal S1x512x2048 .bf16) (ix3 (0 : Fin 1) r k)
      = (m (c.tc.loc main_arg2) : FVec Ideal S8x2048x4096 .bf16) (ix3 (grid0.coords t 0) (rowOf t r) ⟨2048 + k.val, by omega⟩) := by
  blk_simp [iblk]
  rw [V_main_arg2]
  congr 1
  blk_ext [e3, rowOf]

theorem block_4 (r : Fin 512) (k : Fin 1024) :
    (iblk m c 4 t : FVec Ideal S1x512x1024 .f32) (ix3 (0 : Fin 1) r k)
      = (m (c.tc.loc main_arg3) : FVec Ideal S8x2048x1024 .f32) (ix3 (grid0.coords t 0) (rowOf t r) k) := by
  blk_simp [iblk]
  rw [V_main_arg3]
  congr 1
  blk_ext [e4, rowOf]

theorem block_5 (r : Fin 256) (k : Fin 1024) :
    (iblk m c 5 t : FVec Ideal S1x256x1024 .bf16) (ix3 (0 : Fin 1) r k)
      = (m (c.tc.loc main_arg4) : FVec Ideal S8x256x1024 .bf16) (ix3 (grid0.coords t 0) r k) := by
  blk_simp [iblk]
  rw [V_main_arg4]
  congr 1
  blk_ext [e5, rowOf]

theorem block_6 (k : Fin 2048) (j : Fin 1024) :
    (iblk m c 6 t : FVec Ideal S2048x1024 .bf16) (ix2 k j)
      = (m (c.tc.loc main_arg5) : FVec Ideal S2x2048x1024 .f32) (ix3 0 k j) := by
  refine Eq.trans ?_ (host_w m c k j)
  blk_simp [iblk]
  congr 1
  blk_ext [e6]

theorem block_7 (k : Fin 1536) :
    (iblk m c 7 t : FVec Ideal S1x1536 .f32) (ix2 0 k) = (m (c.tc.loc main_arg6) : FVec Ideal S1x1536 .f32) (ix2 0 k) := by
  refine Eq.trans ?_ (host_g m c k)
  blk_simp [iblk]
  congr 1
  blk_ext [e7]

theorem block_8 (k : Fin 1536) :
    (iblk m c 8 t : FVec Ideal S1x1536 .f32) (ix2 0 k) = (m (c.tc.loc main_arg7) : FVec Ideal S1x1536 .f32) (ix2 0 k) := by
  refine Eq.trans ?_ (host_s m c k)
  blk_simp [iblk]
  congr 1
  blk_ext [e8]

end Cert.Kernel5Ideal.Row

end
-- ==== Proof.MixRef.lean ====
/- The reference of the mLSTM layer's last stage, read at an index: each of its result's rows is the plain row function
   of that row's activations. -/
module

public import proofs.«01_k».proof.Proof.MixRow
public import proofs.«01_k».proof.Proof.Gen.Reference5Ideal.Read

@[expose] public section

set_option maxRecDepth 16384

noncomputable section

namespace Cert.Reference5Ideal.Row

open Cert.Reference5Ideal Cert.Reference5Ideal.Gen Cert.Reference5Ideal.Read Cert.Layer
open Idealize.ShloMosaic Idealize.SL.Sem

variable (x0 x1 : (⟨S8x2048x1536, .bf16⟩ : BufTy).Contents (Elt Ideal))
variable (x2 : (⟨S8x2048x4096, .bf16⟩ : BufTy).Contents (Elt Ideal))
variable (x3 : (⟨S8x2048x1024, .f32⟩ : BufTy).Contents (Elt Ideal))
variable (x4 : (⟨S8x256x1024, .bf16⟩ : BufTy).Contents (Elt Ideal))
variable (x5 : (⟨S2x2048x1024, .f32⟩ : BufTy).Contents (Elt Ideal))
variable (x6 x7 : (⟨S1x1536, .f32⟩ : BufTy).Contents (Elt Ideal))

theorem mean_eq (b : Fin 8) (t : Fin 2048) (h : Fin 4) :
    val_main_v10 x0 (ix4 b t h 0) = headMean (fun c => x0 (ix3 b t c)) h := by
  pointwise [val_main_v10, val_main_v9, val_main_v8, val_main_v7, val_main_v6, val_main_v0, val_main_cst_0, val_main_cst]
  rfl

theorem var_eq (b : Fin 8) (t : Fin 2048) (h : Fin 4) :
    val_main_v17 x0 (ix4 b t h 0) = headVar (fun c => x0 (ix3 b t c)) h := by
  pointwise [val_main_v17, val_main_v16, val_main_v15, val_main_v14, val_main_v13, val_main_v12, val_main_v11,
    val_main_v6, val_main_v0, val_main_cst_1, val_main_cst_2, mean_eq]
  rfl

theorem mixed_eq (b : Fin 8) (t : Fin 2048) (c : Fin 1536) :
    val_main_v34 x0 x1 x6 x7 (ix3 b t c) = mixed (fun c => x0 (ix3 b t c)) (fun c => x1 (ix3 b t c))
      (fun c => x6 (ix2 0 c)) (fun c => x7 (ix2 0 c)) c := by
  pointwise [val_main_v34, val_main_v33, val_main_v32, val_main_v31, val_main_v30, val_main_v29, val_main_v28,
    val_main_v27, val_main_v26, val_main_v25, val_main_v24, val_main_v23, val_main_v22, val_main_v21, val_main_v20,
    val_main_cst_3, val_main_v19, val_main_v18, val_main_v6, val_main_v0, val_main_v1, mean_eq, var_eq]
  rfl

theorem score_eq (b : Fin 8) (n : Fin 4) (t : Fin 2048) (j : Fin 256) :
    val_main_v42 x2 x4 (ix4 b n t j) = score (fun c => x2 (ix3 b t ⟨1536 + c.val, by omega⟩))
      (fun m c => x4 (ix3 b m ⟨c.val, by omega⟩)) n j := by
  pointwise [val_main_v42, val_main_v41, val_main_cst_4, val_main_v40, val_main_v38, val_main_v37, val_main_v35,
    val_main_v4, val_main_v3, val_main_v2]
  rfl

theorem lift_score (h : S8x4x2048x256.Reduces [3] S8x4x2048) (b : Fin 8) (n : Fin 4) (t : Fin 2048)
    (k : Fin (S8x4x2048x256.size 3)) : h.lift (ix3 b n t) k = ix4 b n t (⟨k.val, k.isLt⟩ : Fin 256) := by
  funext c
  apply Fin.ext
  fin_cases c <;> rfl

theorem fold_scores (y : FVec Ideal S8x4x2048x256 .f32) (b : Fin 8) (n : Fin 4) (t : Fin 2048) :
    Host.reduce (α := Ideal .f32) FloatOps.maximumf y (val_main_cst_5 (F := Ideal)) reducesTo_S8x4x2048x256_S8x4x2048_d3 h_S_ (ix3 b n t)
      = (Finset.univ : Finset (Fin 256)).fold max (⊥ : EReal) fun k => y (ix4 b n t k) := by
  have hr : S8x4x2048x256.Reduces [3] S8x4x2048 := by decide
  rw [Host.reduce_eq_fold_single FloatOps.maximumf y _ reducesTo_S8x4x2048x256_S8x4x2048_d3 hr h_S_]
  have hf : (y ∘ hr.lift (ix3 b n t)) = fun k : Fin 256 => y (ix4 b n t k) :=
    funext fun k => congrArg y (lift_score hr b n t k)
  have hb : (val_main_cst_5 (F := Ideal)) (Shape.Idx.first h_S_) = (⊥ : EReal) := ofBits_negInf
  rw [hb]
  exact congrArg (fun f => Finset.fold max (⊥ : EReal) f (Finset.univ : Finset (Fin 256))) hf

theorem peak_eq (b : Fin 8) (n : Fin 4) (t : Fin 2048) :
    val_main_v45 x2 x4 (ix3 b n t) = peak (fun c => x2 (ix3 b t ⟨1536 + c.val, by omega⟩))
      (fun m c => x4 (ix3 b m ⟨c.val, by omega⟩)) n := by
  rw [val_main_v45_apply, val_main_v44_apply]
  unfold val_main_v43
  rw [fold_scores]
  simp only [score_eq]
  show max (Ideal.ofBits .f32 0xFF800000#32) _ = _
  rw [ofBits_negInf, max_bot_left]
  rfl

theorem weight_eq (b : Fin 8) (n : Fin 4) (t : Fin 2048) (j : Fin 256) :
    val_main_v49 x2 x4 (ix4 b n t j) = weight (fun c => x2 (ix3 b t ⟨1536 + c.val, by omega⟩))
      (fun m c => x4 (ix3 b m ⟨c.val, by omega⟩)) n j := by
  pointwise [val_main_v49, val_main_v48, val_main_v47, val_main_v46, score_eq, peak_eq]
  rfl

theorem attend_eq (b : Fin 8) (t : Fin 2048) (n : Fin 4) (d : Fin 128) :
    val_main_v55 x2 x4 (ix4 b t n d) = attend (fun c => x2 (ix3 b t ⟨1536 + c.val, by omega⟩))
      (fun m c => x4 (ix3 b m ⟨c.val, by omega⟩)) (fun m c => x4 (ix3 b m ⟨512 + c.val, by omega⟩)) n d := by
  pointwise [val_main_v55, val_main_v54, val_main_v53, val_main_v52, val_main_v51, val_main_v50, val_main_cst_7,
    weight_eq, val_main_v39, val_main_v36, val_main_v3]
  exact Finset.sum_congr rfl fun m _ => mul_comm _ _

theorem gated_eq (b : Fin 8) (t : Fin 2048) (c : Fin 2048) :
    val_main_v59 x0 x1 x2 x4 x6 x7 (ix3 b t c) = gated
      (mixed (fun c => x0 (ix3 b t c)) (fun c => x1 (ix3 b t c)) (fun c => x6 (ix2 0 c)) (fun c => x7 (ix2 0 c)))
      (attend (fun c => x2 (ix3 b t ⟨1536 + c.val, by omega⟩)) (fun m c => x4 (ix3 b m ⟨c.val, by omega⟩))
        (fun m c => x4 (ix3 b m ⟨512 + c.val, by omega⟩)))
      (fun c => x2 (ix3 b t ⟨2048 + c.val, by omega⟩)) c := by
  pointwise [val_main_v59, val_main_v58, val_main_v57, val_main_v56, val_main_v5, val_main_v2,
    val_main_call0_v5, val_main_call0_v4, val_main_call0_v3, val_main_call0_v2, val_main_call0_v1, val_main_call0_v0,
    val_main_call0_cst, val_main_call0_cst_0, mixed_eq, attend_eq]
  rfl

/-- The reference's result at batch `b`, row `t`, lane `j`. -/
theorem result_eq (b : Fin 8) (t : Fin 2048) (j : Fin 1024) :
    val_main_v63 x0 x1 x2 x3 x4 x5 x6 x7 (ix3 b t j) = projected (fun j => x3 (ix3 b t j))
      (gated
        (mixed (fun c => x0 (ix3 b t c)) (fun c => x1 (ix3 b t c)) (fun c => x6 (ix2 0 c)) (fun c => x7 (ix2 0 c)))
        (attend (fun c => x2 (ix3 b t ⟨1536 + c.val, by omega⟩)) (fun m c => x4 (ix3 b m ⟨c.val, by omega⟩))
          (fun m c => x4 (ix3 b m ⟨512 + c.val, by omega⟩)))
        (fun c => x2 (ix3 b t ⟨2048 + c.val, by omega⟩)))
      (fun c j => x5 (ix3 0 c j)) j := by
  pointwise [val_main_v63, val_main_v62, val_main_v61, val_main_v60, gated_eq]
  rfl

end Cert.Reference5Ideal.Row
-- ==== Proof.MixValue.lean ====
/- The array that the mLSTM layer's last kernel leaves: the plain reference's result, where the attention's queries and
   keys are finite. -/
module

public import proofs.«01_k».proof.Proof.MixBlocks
public import proofs.«01_k».proof.Proof.MixRef
public import proofs.«01_k».proof.Proof.OutValue
public import proofs.«01_k».proof.Proof.Gen.Kernel5Ideal.Value
public import proofs.«01_k».proof.Proof.Gen.Pre_mlstm_scores_finite

@[expose] public section

set_option maxRecDepth 16384

noncomputable section

namespace Cert.Kernel5Ideal.Row

open Cert.Kernel5Ideal Cert.Kernel5Ideal.Gen Cert.Layer Idealize.ShloMosaic Idealize.ShloMosaic.TcCoe Idealize.SL.Sem

theorem pre_query {x0 x1 x2 x3 x4 x5 x6 x7} (h : Cert.Pre_mlstm_scores_finite.fn (F := Ideal) x0 x1 x2 x3 x4 x5 x6 x7 = fun _ => 1#1)
    (b : Fin 8) (t : Fin 2048) (k : Fin 512) : ∃ r : ℝ, (x2 (ix3 b t ⟨1536 + k.val, by omega⟩) : EReal) = r := by
  have h := congrFun h (ix3 b (⟨t.val, by omega⟩ : Fin 2304) k)
  unfold Cert.Pre_mlstm_scores_finite.fn at h
  pointwise at h
  exact Cert.KernelIdeal.Row.real_of_abs_lt h

theorem pre_key {x0 x1 x2 x3 x4 x5 x6 x7} (h : Cert.Pre_mlstm_scores_finite.fn (F := Ideal) x0 x1 x2 x3 x4 x5 x6 x7 = fun _ => 1#1)
    (b : Fin 8) (t : Fin 256) (k : Fin 512) : ∃ r : ℝ, (x4 (ix3 b t ⟨k.val, by omega⟩) : EReal) = r := by
  have h := congrFun h (ix3 b (⟨2048 + t.val, by omega⟩ : Fin 2304) k)
  unfold Cert.Pre_mlstm_scores_finite.fn at h
  pointwise at h
  exact Cert.KernelIdeal.Row.real_of_abs_lt h

variable (m : (ℓ : Loc nD τ sig) → Buf (Elt Ideal) ℓ) (c : Dev nD)

/-- The precondition, of the arguments in memory. -/
abbrev Finite : Prop :=
  Cert.Pre_mlstm_scores_finite.fn (F := Ideal) (m (c.tc.loc main_arg0)) (m (c.tc.loc main_arg1)) (m (c.tc.loc main_arg2))
    (m (c.tc.loc main_arg3)) (m (c.tc.loc main_arg4)) (m (c.tc.loc main_arg5)) (m (c.tc.loc main_arg6))
    (m (c.tc.loc main_arg7)) = fun _ => 1#1

/-- The reference's result of the arguments in memory. -/
abbrev expected : FVec Ideal S8x2048x1024 .f32 :=
  Cert.Reference5Ideal.Read.val_main_v63 (F := Ideal) (m (c.tc.loc main_arg0)) (m (c.tc.loc main_arg1))
    (m (c.tc.loc main_arg2)) (m (c.tc.loc main_arg3)) (m (c.tc.loc main_arg4)) (m (c.tc.loc main_arg5)) (m (c.tc.loc main_arg6))
    (m (c.tc.loc main_arg7))

/-- What grid point `t` leaves at row `r`, lane `j` of its block. -/
theorem point_row (h : Finite m c) (t : Fin cfg0.N) (r : Fin 512) (j : Fin 1024) :
    outsAt0 m c t (ix3 (0 : Fin 1) r j) = expected m c (ix3 (grid0.coords t 0) (rowOf t r) j) := by
  refine (block_row ..).trans (Eq.trans ?_ (Cert.Reference5Ideal.Row.result_eq ..).symm)
  unfold projRow blockRow
  rw [show gateRow (iblk m c 3 t) r = fun k => (m (c.tc.loc main_arg2) : FVec Ideal S8x2048x4096 .bf16)
    (ix3 (grid0.coords t 0) (rowOf t r) (⟨2048 + k.val, by omega⟩ : Fin 4096)) from funext fun k => block_3 m c t r k]
  simp only [block_0 m c t, block_1 m c t, block_2 m c t, block_4 m c t, block_5 m c t, block_6 m c t, block_7 m c t,
    block_8 m c t]
  rw [show attendLate _ _ _ = attend _ _ _ from funext fun n => funext fun d => attendLate_eq _
    (fun k => pre_query h (grid0.coords t 0) (rowOf t r) k) (fun a k => pre_key h (grid0.coords t 0) a k) n d]

theorem final_o (h : Finite m c) : (dats m 0 c).arrAt 9 cfg0.N = expected m c := by
  refine (dats m 0 c).arrAt_eq_of_covers 9 _ (by decide +kernel) fun t hf y => ?_
  blk_simp
  rw [after0_9]
  have hy : y = ix3 (0 : Fin 1) (y 1 : Fin 512) (y 2 : Fin 1024) := by
    funext a; fin_cases a
    · exact Subsingleton.elim (α := Fin 1) _ _
    · rfl
    · rfl
  have he : (win0_9.blk t).view.emb (ix3 (0 : Fin 1) (y 1 : Fin 512) (y 2 : Fin 1024))
      = (ix3 (grid0.coords t 0) (rowOf t (y 1)) (y 2) : S8x2048x1024.Idx) := by
    blk_ext [e9, rowOf]
  rw [hy]
  exact (point_row m c h t (y 1) (y 2)).trans (congrArg (expected m c) he.symm)

end Cert.Kernel5Ideal.Row

end
-- ==== Proof.MixClaim.lean ====
/- The claims about the mLSTM layer's last stage. -/
module

public import proofs.«01_k».proof.Proof.MixValue
public import proofs.«01_k».proof.Defs
public import proofs.«01_k».proof.Proof.Gen.Kernel5.Frame
public import Idealize.ShloMosaic.Lib.Quiescent

@[expose] public section

set_option maxRecDepth 16384

noncomputable section

namespace Cert.Mix

open Idealize.ShloMosaic Idealize.SL.Sem

theorem kernel_frame : Cert.quiescent_Kernel5 := fun m g _ => Cert.Kernel5.Gen.frame m g

theorem ideal_frame : Cert.quiescent_Kernel5Ideal := fun m g _ => Cert.Kernel5Ideal.Gen.frame m g

theorem ideal_frame_finite : Cert.quiescent_Kernel5Ideal_pre_mlstm_scores_finite := fun m g _ => Cert.Kernel5Ideal.Gen.frame m g

theorem reference_frame : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

theorem reference_frame_finite : Cert.quiescent_Reference5Ideal_pre_mlstm_scores_finite := fun m g _ => reference_frame m g trivial

/-- Where the queries and keys are finite, the kernel leaves exactly the reference's result. -/
theorem value : Cert.algebraic_Kernel5Ideal_Reference5Ideal_pre_mlstm_scores_finite := by
  intro m g m' g' hfin hargs
  refine ⟨fun c => Cert.Kernel5Ideal.Row.expected m c, ?_, ?_⟩
  · refine (θ_run Cert.Kernel5Ideal.defs _ _).mono (fun r h c => ?_) (Cert.Kernel5Ideal.Value.run_blocks m g)
    exact ⟨(h c).1.trans (Cert.Kernel5Ideal.Row.final_o m c (hfin c)), (h c).2⟩
  · refine (θ_run Cert.Reference5Ideal.defs _ _).mono (fun r h c => ?_) (Cert.Reference5Ideal.Value.run m' g')
    refine ⟨(h c).1.trans ((Cert.Reference5Ideal.Read.val_main_v63_eq m' c).trans ?_), (h c).2⟩
    obtain ⟨h0, h1, h2, h3, h4, h5, h6, h7⟩ := hargs c
    rw [h0, h1, h2, h3, h4, h5, h6, h7]

end Cert.Mix

end
-- ==== Proof.lean ====
/- The claims of `Cert.Claim`, joined. -/
module

public import proofs.«01_k».proof.Proof.OutClaim
public import proofs.«01_k».proof.Proof.InClaim
public import proofs.«01_k».proof.Proof.MixClaim

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_scores_finite.Gen.facts, Cert.Pre_mlstm_scores_finite.Gen.facts,
    Cert.Out.kernel_frame, Cert.Out.ideal_frame, Cert.Out.ideal_frame_finite, Cert.Out.reference_frame,
    Cert.Out.reference_frame_finite,
    Cert.InRwkv.kernel_frame, Cert.InRwkv.ideal_frame, Cert.InRwkv.reference_frame,
    Cert.InMlstm.kernel_frame, Cert.InMlstm.ideal_frame, Cert.InMlstm.reference_frame,
    Cert.InMemory.kernel_frame, Cert.InMemory.ideal_frame, Cert.InMemory.reference_frame,
    Cert.Mix.kernel_frame, Cert.Mix.ideal_frame, Cert.Mix.ideal_frame_finite, Cert.Mix.reference_frame,
    Cert.Mix.reference_frame_finite,
    trivial, Cert.Out.value, trivial, Cert.InRwkv.value, trivial, Cert.InMlstm.value, trivial, Cert.InMemory.value,
    trivial, Cert.Mix.value⟩

end Cert.Proof

end
